-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v2_2)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v2_2) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v5) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x1024 : Shape := ⟨3, ![4, 1024, 1024]⟩
abbrev S9344x1024 : Shape := ⟨2, ![9344, 1024]⟩
abbrev S4096x1024 : Shape := ⟨2, ![4096, 1024]⟩
abbrev S1x1 : Shape := ⟨2, ![1, 1]⟩
abbrev S512x1024 : Shape := ⟨2, ![512, 1024]⟩
abbrev S1168x1024 : Shape := ⟨2, ![1168, 1024]⟩
abbrev S16x1024 : Shape := ⟨2, ![16, 1024]⟩
abbrev S8x1024 : Shape := ⟨2, ![8, 1024]⟩
abbrev S32x16x1024 : Shape := ⟨3, ![32, 16, 1024]⟩
abbrev S146x8x1024 : Shape := ⟨3, ![146, 8, 1024]⟩
abbrev S1x16x1024 : Shape := ⟨3, ![1, 16, 1024]⟩
abbrev S1 : Shape := ⟨1, ![1]⟩
abbrev S1x1x1 : Shape := ⟨3, ![1, 1, 1]⟩
abbrev S1x8x1024 : Shape := ⟨3, ![1, 8, 1024]⟩
abbrev S512x8x9344 : Shape := ⟨3, ![512, 8, 9344]⟩
abbrev S512x8x512 : Shape := ⟨3, ![512, 8, 512]⟩
abbrev S512x512 : Shape := ⟨2, ![512, 512]⟩
abbrev S64x8x512 : Shape := ⟨3, ![64, 8, 512]⟩
abbrev S4x1024x9344 : Shape := ⟨3, ![4, 1024, 9344]⟩
abbrev S_ : Shape := ⟨0, ![]⟩

abbrev nBuf : Space → Nat
  | .hbm => 14
  | .vmem => 18
  | .smem => 4
  | _ => 0

abbrev bufTy : (tb : Table) → Fin (tcTables nBuf tb) → BufTy
  | .hbm, ⟨0, _⟩ => ⟨S4x1024x1024, .bf16⟩
  | .hbm, ⟨1, _⟩ => ⟨S9344x1024, .f32⟩
  | .hbm, ⟨2, _⟩ => ⟨S4096x1024, .bf16⟩
  | .hbm, ⟨3, _⟩ => ⟨S1x1, .f32⟩
  | .hbm, ⟨4, _⟩ => ⟨S1x1, .f32⟩
  | .hbm, ⟨5, _⟩ => ⟨S1x1, .f32⟩
  | .hbm, ⟨6, _⟩ => ⟨S1x1, .f32⟩
  | .hbm, ⟨7, _⟩ => ⟨S512x8x9344, .bf16⟩
  | .hbm, ⟨8, _⟩ => ⟨S4096x1024, .fp8e5m2⟩
  | .hbm, ⟨9, _⟩ => ⟨S9344x1024, .fp8e4m3⟩
  | .hbm, ⟨10, _⟩ => ⟨S4x1024x9344, .bf16⟩
  | .hbm, ⟨11, _⟩ => ⟨S4x1024x1024, .fp8e5m2⟩
  | .hbm, ⟨12, _⟩ => ⟨S_, .f32⟩
  | .hbm, ⟨13, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S1168x1024, .f32⟩
  | .local _ .vmem, ⟨3, _⟩ => ⟨S1168x1024, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S16x1024, .bf16⟩
  | .local _ .vmem, ⟨9, _⟩ => ⟨S8x1024, .f32⟩
  | .local _ .vmem, ⟨10, _⟩ => ⟨S4096x1024, .bf16⟩
  | .local _ .vmem, ⟨11, _⟩ => ⟨S512x1024, .f32⟩
  | .local _ .vmem, ⟨12, _⟩ => ⟨S512x1024, .f32⟩
  | .local _ .vmem, ⟨13, _⟩ => ⟨S512x8x512, .bf16⟩
  | .local _ .vmem, ⟨14, _⟩ => ⟨S512x8x512, .bf16⟩
  | .local _ .vmem, ⟨15, _⟩ => ⟨S4096x1024, .fp8e5m2⟩
  | .local _ .vmem, ⟨16, _⟩ => ⟨S512x1024, .fp8e4m3⟩
  | .local _ .vmem, ⟨17, _⟩ => ⟨S512x1024, .fp8e4m3⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg0_0 : Ref sig .tc := ⟨.smem, 0, rfl⟩
abbrev cc1_stg1_0 : Ref sig .tc := ⟨.smem, 1, rfl⟩
abbrev cc1_stg2_0 : Ref sig .tc := ⟨.smem, 2, rfl⟩
abbrev cc1_stg3_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v22 : BitVec 1 := Scalar.cmpi .eq arg0 c7_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1168x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![19], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x8x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S4096x1024 .fp8e5m2 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .fp8e4m3 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S4x1024x1024 : Shape := ⟨3, ![4, 1024, 1024]⟩
abbrev S9344x1024 : Shape := ⟨2, ![9344, 1024]⟩
abbrev S4096x1024 : Shape := ⟨2, ![4096, 1024]⟩
abbrev S4096x9344 : Shape := ⟨2, ![4096, 9344]⟩
abbrev S1x1 : Shape := ⟨2, ![1, 1]⟩
abbrev S1x4096x1024 : Shape := ⟨3, ![1, 4096, 1024]⟩
abbrev S1 : Shape := ⟨1, ![1]⟩
abbrev S1x1x1 : Shape := ⟨3, ![1, 1, 1]⟩
abbrev S1x254 : Shape := ⟨2, ![1, 254]⟩
abbrev S1x9344x1024 : Shape := ⟨3, ![1, 9344, 1024]⟩
abbrev S4x1024x9344 : Shape := ⟨3, ![4, 1024, 9344]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S4x1024x1024, .bf16⟩
  | .hbm, ⟨1, _⟩ => ⟨S9344x1024, .f32⟩
  | .hbm, ⟨2, _⟩ => ⟨S4096x1024, .bf16⟩
  | .hbm, ⟨3, _⟩ => ⟨S4096x9344, .bf16⟩
  | .hbm, ⟨4, _⟩ => ⟨S4096x1024, .fp8e5m2⟩
  | .hbm, ⟨5, _⟩ => ⟨S1x1, .f32⟩
  | .hbm, ⟨6, _⟩ => ⟨S9344x1024, .fp8e4m3⟩
  | .hbm, ⟨7, _⟩ => ⟨S1x1, .f32⟩
  | .hbm, ⟨8, _⟩ => ⟨S4x1024x9344, .bf16⟩
  | .hbm, ⟨9, _⟩ => ⟨S4x1024x1024, .fp8e5m2⟩
  | .hbm, ⟨10, _⟩ => ⟨S_, .f32⟩
  | .hbm, ⟨11, _⟩ => ⟨S_, .f32⟩
  | .local _ .vmem, ⟨0, _⟩ => ⟨S4096x1024, .bf16⟩
  | .local _ .vmem, ⟨1, _⟩ => ⟨S9344x1024, .f32⟩
  | .local _ .vmem, ⟨2, _⟩ => ⟨S4096x9344, .bf16⟩
  | .local _ .vmem, ⟨3, _⟩ => ⟨S4096x1024, .fp8e5m2⟩
  | .local _ .vmem, ⟨4, _⟩ => ⟨S1x1, .f32⟩
  | .local _ .vmem, ⟨5, _⟩ => ⟨S9344x1024, .fp8e4m3⟩
  | .local _ .vmem, ⟨6, _⟩ => ⟨S1x1, .f32⟩
  | _, _ => ⟨S4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9344x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x9344 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9344x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Body0.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.VecWindow
public import Idealize.ShloMosaic.Lib.Ring
public import Idealize.ShloMosaic.Lib.Pipeline.FrameBody
public import Idealize.ShloMosaic.Lib.Tactic
public import Idealize.ShloMosaic.Lib.WordCmp

@[expose] public section

/-!
  The first kernel's body (running maxima and scales): what one grid point leaves in its buffers, with the contents
  named by the kernel's own expressions, at any reading of the float formats.
-/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The values the last grid point computes from the two running maxima -/

/-- The exponent the kernel's search ends at for `dy`, from the running maximum buffer. -/
def expDy (v25 : Vec F S16x1024 .bf16) : IVec S1x1 32 :=
  k0_pay30 (k0_pay27 (k0_pay15 v25) (k0_pay16 v25) (k0_pay17 v25)) (k0_pay28 (k0_pay15 v25) (k0_pay17 v25))
    (k0_pay29 (k0_pay15 v25) (k0_pay17 v25)) 32#32
/-- The scale of `dy`. -/
def sdyOf (v25 : Vec F S16x1024 .bf16) : Vec F S1x1 .f32 :=
  k0_pay34 (k0_pay7 v25) (expDy v25) (k0_pay31 (k0_pay9 v25)) (k0_pay32 (k0_pay9 v25))
/-- The reciprocal scale of `dy`. -/
def idyOf (v25 : Vec F S16x1024 .bf16) : Vec F S1x1 .f32 :=
  k0_pay35 (k0_pay7 v25) (expDy v25) (k0_pay31 (k0_pay9 v25)) (k0_pay32 (k0_pay9 v25))

/-- The word of `1 / 448`, by which the maximum of `w` is multiplied. -/
abbrev wRecip : F .f32 := Scalar.ofBits .f32 0x3B124925#32
/-- The threshold the second part of the exponent search for `w` starts at. -/
abbrev wFour : F .f32 := Scalar.ofBits .f32 0x40800000#32
/-- The part of the exponent search for `w` already done when its second part starts: its value. -/
def wStepV (v32 : Vec F S8x1024 .f32) : FVec F S1x1 .f32 := k0_pay46 (k0_pay8 v32) wRecip
/-- A function of the six values the last part of the exponent search for `w` takes, at those values. -/
def wTail {α : Type} (f : FVec F S1x1 .f32 → FVec F S1x1 .f32 → FVec F S1x1 .f32 → IVec S1x1 32 → IVec S1x1 1 → FVec F S1x1 .f32 → α)
    (v32 : Vec F S8x1024 .f32) : α :=
  f (k0_pay8 v32) (k0_pay36 (k0_pay8 v32) wRecip) (k0_pay57 (wStepV v32) wFour)
    (k0_pay58 (wStepV v32) (k0_pay47 (k0_pay8 v32) wRecip) wFour) (k0_pay59 (wStepV v32) wFour) (k0_pay60 (wStepV v32) wFour)
/-- The scale of `w`. -/
def swOf (v32 : Vec F S8x1024 .f32) : Vec F S1x1 .f32 := k0_pay5 (wTail k0_pay61 v32) (wTail k0_pay62 v32) (wTail k0_pay63 v32)
/-- The reciprocal scale of `w`. -/
def iwOf (v32 : Vec F S8x1024 .f32) : Vec F S1x1 .f32 := k0_pay6 (F := F) (wTail k0_pay61 v32)

/-! ## The body at a grid point -/

/-- The point is the first one: the body resets the running maxima. -/
abbrev cond0_0 (i : grid0.Coords) : Prop := (Scalar.cmpi .ne (Scalar.extui (Scalar.cmpi .eq (BitVec.ofNat 32 (i 0).val) 0#32)) 0#32) = 1#1
/-- The point is the last one: the body computes the scales. -/
abbrev cond0_1 (i : grid0.Coords) : Prop := k0_cond2 i = 1#1

set_option maxHeartbeats 4000000 in
/-- The first point: the running maxima restart from zero and take in the point's blocks. -/
theorem body0_A (c : Dev nD) (i : grid0.Coords) (arg1 : Memref sig .tc .vmem S512x1024 .bf16) (harg1 : arg1.IsWhole) (arg2 : Memref sig .tc .vmem S1168x1024 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S16x1024 .bf16) (harg7 : arg7.IsWhole) (arg8 : Memref sig .tc .vmem S8x1024 .f32) (harg8 : arg8.IsWhole) (hc0 : cond0_0 i) (hc1 : ¬cond0_1 i)
    (x0 : Vec F S512x1024 .bf16) (x1 : Vec F S1168x1024 .f32) (z3 z4 z5 z6 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare z3 ∗ owns (c : Thread nD τ) arg4 fullShare z4 ∗ owns (c : Thread nD τ) arg5 fullShare z5 ∗ owns (c : Thread nD τ) arg6 fullShare z6 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare z3 ∗ owns (c : Thread nD τ) arg4 fullShare z4 ∗ owns (c : Thread nD τ) arg5 fullShare z5 ∗ owns (c : Thread nD τ) arg6 fullShare z6
            ∗ owns (c : Thread nD τ) arg7 fullShare (k0_pay3 x0 k0_pay1) ∗ owns (c : Thread nD τ) arg8 fullShare (k0_pay4 x1 k0_pay2)) -∗ K ⟨⟩))
      ⊢ wp frame (wpE (defs₀ (F := F)) Variants.none c none) E (cc0_amax_scales i arg1 harg1 arg2 harg2 arg3 harg3 arg4 harg4 arg5 harg5 arg6 harg6 arg7 harg7 arg8 harg8) K := by
  simp only [cc0_amax_scales_eq_skeleton]; unfold cc0_amax_scales_skel
  unfold owns
  iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [HS0]
  · iexists _; isplitr; swap; · iexact HS0
    ipureintro; exact (View.read_writes_full _ _ inb_S16x1024_S16x1024_0_0 _ _).trans (congrArg₂ k0_pay3 ((View.readAt_full _ _ _).trans (harg1.read_unread _)) (View.readCov_full _ inb_S16x1024_S16x1024_0_0 inb_S16x1024_S16x1024_0_0 _ _))
  iexists _; isplitr; swap; · iexact HS1
  ipureintro; exact (View.read_writes_full _ _ inb_S8x1024_S8x1024_0_0 _ _).trans (congrArg₂ k0_pay4 ((View.readAt_full _ _ _).trans (harg2.read_unread _)) (View.readCov_full _ inb_S8x1024_S8x1024_0_0 inb_S8x1024_S8x1024_0_0 _ _))

set_option maxHeartbeats 4000000 in
/-- A middle point: the running maxima take in the point's blocks. -/
theorem body0_B (c : Dev nD) (i : grid0.Coords) (arg1 : Memref sig .tc .vmem S512x1024 .bf16) (harg1 : arg1.IsWhole) (arg2 : Memref sig .tc .vmem S1168x1024 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S16x1024 .bf16) (harg7 : arg7.IsWhole) (arg8 : Memref sig .tc .vmem S8x1024 .f32) (harg8 : arg8.IsWhole) (hc0 : ¬cond0_0 i) (hc1 : ¬cond0_1 i)
    (x0 : Vec F S512x1024 .bf16) (x1 : Vec F S1168x1024 .f32) (xs0 : Vec F S16x1024 .bf16) (xs1 : Vec F S8x1024 .f32) (z3 z4 z5 z6 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare z3 ∗ owns (c : Thread nD τ) arg4 fullShare z4 ∗ owns (c : Thread nD τ) arg5 fullShare z5 ∗ owns (c : Thread nD τ) arg6 fullShare z6 ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare z3 ∗ owns (c : Thread nD τ) arg4 fullShare z4 ∗ owns (c : Thread nD τ) arg5 fullShare z5 ∗ owns (c : Thread nD τ) arg6 fullShare z6
            ∗ owns (c : Thread nD τ) arg7 fullShare (k0_pay3 x0 xs0) ∗ owns (c : Thread nD τ) arg8 fullShare (k0_pay4 x1 xs1)) -∗ K ⟨⟩))
      ⊢ wp frame (wpE (defs₀ (F := F)) Variants.none c none) E (cc0_amax_scales i arg1 harg1 arg2 harg2 arg3 harg3 arg4 harg4 arg5 harg5 arg6 harg6 arg7 harg7 arg8 harg8) K := by
  simp only [cc0_amax_scales_eq_skeleton]; unfold cc0_amax_scales_skel
  unfold owns
  iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg7.eq_unread hfs0; obtain rfl := harg8.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [HS0]
  · iexists _; isplitr; swap; · iexact HS0
    ipureintro; exact (View.read_writes_full _ _ inb_S16x1024_S16x1024_0_0 _ _).trans (congrArg₂ k0_pay3 ((View.readAt_full _ _ _).trans (harg1.read_unread _)) ((View.readAt_full _ _ _).trans (harg7.read_unread _)))
  iexists _; isplitr; swap; · iexact HS1
  ipureintro; exact (View.read_writes_full _ _ inb_S8x1024_S8x1024_0_0 _ _).trans (congrArg₂ k0_pay4 ((View.readAt_full _ _ _).trans (harg2.read_unread _)) ((View.readAt_full _ _ _).trans (harg8.read_unread _)))

set_option maxHeartbeats 4000000 in
/-- The last point: the running maxima take in the last blocks and the scales are computed from them. -/
theorem body0_C (c : Dev nD) (i : grid0.Coords) (arg1 : Memref sig .tc .vmem S512x1024 .bf16) (harg1 : arg1.IsWhole) (arg2 : Memref sig .tc .vmem S1168x1024 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S16x1024 .bf16) (harg7 : arg7.IsWhole) (arg8 : Memref sig .tc .vmem S8x1024 .f32) (harg8 : arg8.IsWhole) (hc0 : ¬cond0_0 i) (hc1 : cond0_1 i)
    (x0 : Vec F S512x1024 .bf16) (x1 : Vec F S1168x1024 .f32) (xs0 : Vec F S16x1024 .bf16) (xs1 : Vec F S8x1024 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare (sdyOf (k0_pay3 x0 xs0)) ∗ owns (c : Thread nD τ) arg4 fullShare (idyOf (k0_pay3 x0 xs0)) ∗ owns (c : Thread nD τ) arg5 fullShare (swOf (k0_pay4 x1 xs1)) ∗ owns (c : Thread nD τ) arg6 fullShare (iwOf (k0_pay4 x1 xs1))
            ∗ owns (c : Thread nD τ) arg7 fullShare (k0_pay3 x0 xs0) ∗ owns (c : Thread nD τ) arg8 fullShare (k0_pay4 x1 xs1)) -∗ K ⟨⟩))
      ⊢ wp frame (wpE (defs₀ (F := F)) Variants.none c none) E (cc0_amax_scales i arg1 harg1 arg2 harg2 arg3 harg3 arg4 harg4 arg5 harg5 arg6 harg6 arg7 harg7 arg8 harg8) K := by
  simp only [cc0_amax_scales_eq_skeleton]; unfold cc0_amax_scales_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%d3, %f3, -, H3⟩, ⟨%d4, %f4, -, H4⟩, ⟨%d5, %f5, -, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg7.eq_unread hfs0; obtain rfl := harg8.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  have e7 : body0_C.sl.v25 c arg1 harg1 arg7 harg7 x0 xs0 = k0_pay3 x0 xs0 :=
    (View.readCov_full _ inb_S16x1024_S16x1024_0_0 inb_S16x1024_S16x1024_0_0 _ _).trans (congrArg₂ k0_pay3 ((View.readAt_full _ _ _).trans (harg1.read_unread _)) ((View.readAt_full _ _ _).trans (harg7.read_unread _)))
  have e8 : body0_C.sl.v32 c arg2 harg2 arg8 harg8 x1 xs1 = k0_pay4 x1 xs1 :=
    (View.readCov_full _ inb_S8x1024_S8x1024_0_0 inb_S8x1024_S8x1024_0_0 _ _).trans (congrArg₂ k0_pay4 ((View.readAt_full _ _ _).trans (harg2.read_unread _)) ((View.readAt_full _ _ _).trans (harg8.read_unread _)))
  isplitl [H3]
  · iexists _; isplitr; swap; · iexact H3
    ipureintro; exact (View.read_writes_full _ _ inb_S1x1_S1x1_0_0 _ _).trans (congrArg sdyOf e7)
  isplitl [H4]
  · iexists _; isplitr; swap; · iexact H4
    ipureintro; exact (View.read_writes_full _ _ inb_S1x1_S1x1_0_0 _ _).trans (congrArg idyOf e7)
  isplitl [H5]
  · iexists _; isplitr; swap; · iexact H5
    ipureintro; exact (View.read_writes_full _ _ inb_S1x1_S1x1_0_0 _ _).trans (congrArg swOf e8)
  isplitl [H6]
  · iexists _; isplitr; swap; · iexact H6
    ipureintro; exact (View.read_writes_full _ _ inb_S1x1_S1x1_0_0 _ _).trans (congrArg iwOf e8)
  isplitl [HS0]
  · iexists _; isplitr; swap; · iexact HS0
    ipureintro; exact (View.read_writes_full _ _ inb_S16x1024_S16x1024_0_0 _ _).trans (congrArg₂ k0_pay3 ((View.readAt_full _ _ _).trans (harg1.read_unread _)) ((View.readAt_full _ _ _).trans (harg7.read_unread _)))
  iexists _; isplitr; swap; · iexact HS1
  ipureintro; exact (View.read_writes_full _ _ inb_S8x1024_S8x1024_0_0 _ _).trans (congrArg₂ k0_pay4 ((View.readAt_full _ _ _).trans (harg2.read_unread _)) ((View.readAt_full _ _ _).trans (harg8.read_unread _)))

end Cert.KernelIdeal.Hand

end
-- ==== Proof.Seg0.lean ====
/-
  Region 0, the two running maxima: what the region's proof data says. The entry contents of the buffers are any valuation `W c`; the two
  scratches hold the blockwise maxima of the points so far (`accDy`, `accW`), and the four scalars are computed from them at the last point.
-/
module

public import proofs.«01_k».proof.Proof.Body0
public import Idealize.ShloMosaic.Lib.Pipeline.DatRel

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)

variable {F : FTy → Type} [FloatOps F]

local notation "𝕄" => MT nD τ sig Unit (Elt F) ℕ (UR sig nD τ) ℕ

variable (W : Dev nD → Valuation τ sig (Elt F))

/-- Window `w`'s block at point `t` of region 0, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- An input window of region 0 holds its block at every point. -/
theorem before0_0_of {c : Dev nD} (dat : Dat τ (Elt F) Unit ℕ (UR sig nD τ) ℕ cfg0 c) (hA : dat.A 0 = W c (Pipeline.arrRef spec0 0))
    (hafter : ∀ t, dat.after 0 t = iblk0 W c 0 t) (t : Fin cfg0.N) (d) : dat.before 0 t d = iblk0 W c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The other input window, likewise. -/
theorem before0_1_of {c : Dev nD} (dat : Dat τ (Elt F) Unit ℕ (UR sig nD τ) ℕ cfg0 c) (hA : dat.A 1 = W c (Pipeline.arrRef spec0 1))
    (hafter : ∀ t, dat.after 1 t = iblk0 W c 1 t) (t : Fin cfg0.N) (d) : dat.before 1 t d = iblk0 W c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions and the idle points -/

/-- The first branch is taken at the first point only. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The second branch is taken at the last point only. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-- Before the last point the four outputs are idle: nothing is stored into them and none is written back. -/
theorem idle0 : ∀ t : Fin cfg0.N, ¬cond0_1 (grid0.coords t) → ∀ w : Fin 6, 2 ≤ w.val → cfg0.idle w (grid0.coords t) = true ∧ (cfg0.win w).flush t = false := by
  decide +kernel
/-- At the last point they are stored. -/
theorem live0 : ∀ t : Fin cfg0.N, cond0_1 (grid0.coords t) → ∀ w : Fin 6, cfg0.idle w (grid0.coords t) = false := by
  decide +kernel

/-! ## The current buffers -/

/-- Window 0 of the first region as a buffer of the chip. -/
abbrev ms0_0 (t : Fin cfg0.N) : Memref sig .tc .vmem S512x1024 .bf16 := win0_0.stage (cfg0.slots t 0)
/-- Window 1 of the first region as a buffer of the chip. -/
abbrev ms0_1 (t : Fin cfg0.N) : Memref sig .tc .vmem S1168x1024 .f32 := win0_1.stage (cfg0.slots t 1)
/-- Window 2 of the first region as a buffer of the chip. -/
abbrev ms0_2 (t : Fin cfg0.N) : Memref sig .tc .vmem S1x1 .f32 := win0_2.stage (cfg0.slots t 2)
/-- Window 3 of the first region as a buffer of the chip. -/
abbrev ms0_3 (t : Fin cfg0.N) : Memref sig .tc .vmem S1x1 .f32 := win0_3.stage (cfg0.slots t 3)
/-- Window 4 of the first region as a buffer of the chip. -/
abbrev ms0_4 (t : Fin cfg0.N) : Memref sig .tc .vmem S1x1 .f32 := win0_4.stage (cfg0.slots t 4)
/-- Window 5 of the first region as a buffer of the chip. -/
abbrev ms0_5 (t : Fin cfg0.N) : Memref sig .tc .vmem S1x1 .f32 := win0_5.stage (cfg0.slots t 5)
/-- The first scratch buffer of the first region. -/
abbrev scM0_0 : Memref sig .tc .vmem S16x1024 .bf16 := Memref.whole cc0_scratch0
/-- The second scratch buffer of the first region. -/
abbrev scM0_1 : Memref sig .tc .vmem S8x1024 .f32 := Memref.whole cc0_scratch1

/-- The scoped buffers of the other region's windows, each at some contents: what region 0 never touches. -/
def rest0 (c : Dev nD) : sProp 𝕄 :=
  iprop((∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f))

/-- The region's scoped buffers with the scratches named. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

/-! ## The proof data -/

/-- The maxima of `dy` after point `n`. -/
def accDy (c : Dev nD) : (n : ℕ) → n < cfg0.N → Vec F S16x1024 .bf16
  | 0, h => k0_pay3 (iblk0 W c 0 ⟨0, h⟩) k0_pay1
  | n + 1, h => k0_pay3 (iblk0 W c 0 ⟨n + 1, h⟩) (accDy c n (Nat.lt_of_succ_lt h))

/-- The maxima of `w` after point `n`. -/
def accW (c : Dev nD) : (n : ℕ) → n < cfg0.N → Vec F S8x1024 .f32
  | 0, h => k0_pay4 (iblk0 W c 1 ⟨0, h⟩) k0_pay2
  | n + 1, h => k0_pay4 (iblk0 W c 1 ⟨n + 1, h⟩) (accW c n (Nat.lt_of_succ_lt h))

/-- After a later point, the running maxima of `dy` are those of the point before, widened by its block. -/
theorem accDy_pos (c : Dev nD) (n : ℕ) (h : n < cfg0.N) (hz : n ≠ 0) :
    accDy W c n h = k0_pay3 (iblk0 W c 0 ⟨n, h⟩) (accDy W c (n - 1) (by omega)) := by
  cases n with
  | zero => exact absurd rfl hz
  | succ n => rfl
/-- After a later point, the running maxima of `w` are those of the point before, widened by its block. -/
theorem accW_pos (c : Dev nD) (n : ℕ) (h : n < cfg0.N) (hz : n ≠ 0) :
    accW W c n h = k0_pay4 (iblk0 W c 1 ⟨n, h⟩) (accW W c (n - 1) (by omega)) := by
  cases n with
  | zero => exact absurd rfl hz
  | succ n => rfl

/-- After the first point, the running maxima of `dy` start from zero. -/
theorem accDy_first (c : Dev nD) (t : Fin cfg0.N) (hz : t.val = 0) : accDy W c t.val t.isLt = k0_pay3 (iblk0 W c 0 t) k0_pay1 := by
  obtain ⟨n, hn⟩ := t; dsimp only at hz; subst hz; rfl
/-- After the first point, the running maxima of `w` start from zero. -/
theorem accW_first (c : Dev nD) (t : Fin cfg0.N) (hz : t.val = 0) : accW W c t.val t.isLt = k0_pay4 (iblk0 W c 1 t) k0_pay2 := by
  obtain ⟨n, hn⟩ := t; dsimp only at hz; subst hz; rfl

/-- The invariant: any scratch before the first point, the maxima so far after it. -/
def Phi0 (c : Dev nD) : (n : ℕ) → n ≤ cfg0.N → sProp 𝕄
  | 0, _ => Pipeline.ΦA spec0 c
  | n + 1, hn => iprop(iprop(owns (c : Thread nD τ) scM0_0 fullShare (accDy W c n hn) ∗ owns (c : Thread nD τ) scM0_1 fullShare (accW W c n hn) ∗ rest0 c) ∗ (∃ r, prngReg c r))

/-- Before the first point the two scratch buffers hold anything. -/
theorem Phi0_zero (c : Dev nD) (n : ℕ) (h : n ≤ cfg0.N) (hz : n = 0) : Phi0 W c n h = Pipeline.ΦA spec0 c := by
  subst hz; rfl
/-- After a point the two scratch buffers hold its running maxima. -/
theorem Phi0_succ (c : Dev nD) (n : ℕ) (hn : n < cfg0.N) :
    Phi0 W c (n + 1) hn = iprop(iprop(owns (c : Thread nD τ) scM0_0 fullShare (accDy W c n hn) ∗ owns (c : Thread nD τ) scM0_1 fullShare (accW W c n hn) ∗ rest0 c) ∗ (∃ r, prngReg c r)) := rfl
/-- Before a later point the two scratch buffers hold the maxima of the point before. -/
theorem Phi0_pos (c : Dev nD) (n : ℕ) (h : n ≤ cfg0.N) (hz : n ≠ 0) :
    Phi0 W c n h = iprop(iprop(owns (c : Thread nD τ) scM0_0 fullShare (accDy W c (n - 1) (by omega)) ∗ owns (c : Thread nD τ) scM0_1 fullShare (accW W c (n - 1) (by omega)) ∗ rest0 c) ∗ (∃ r, prngReg c r)) := by
  cases n with
  | zero => exact absurd rfl hz
  | succ n => rfl

/-- Region 0's proof data: inputs in place, the four scalars from the maxima so far (consulted at the last point only). -/
def dat0 (c : Dev nD) : Dat τ (Elt F) Unit ℕ (UR sig nD τ) ℕ cfg0 c where
  A w := W c (Pipeline.arrRef spec0 w)
  after w t := match w with
    | ⟨0, _⟩ => iblk0 W c 0 t
    | ⟨1, _⟩ => iblk0 W c 1 t
    | ⟨2, _⟩ => sdyOf (accDy W c t.val t.isLt)
    | ⟨3, _⟩ => idyOf (accDy W c t.val t.isLt)
    | ⟨4, _⟩ => swOf (accW W c t.val t.isLt)
    | ⟨5, _⟩ => iwOf (accW W c t.val t.isLt)
  Φ t := Phi0 W c t.val (Nat.le_of_lt_succ t.isLt)
  q _ := fullShare
  owed _ := 0

/-- The arrays the first region starts from. -/
theorem A0_eq (c : Dev nD) (w : Fin cfg0.W) : (dat0 W c).A w = W c (Pipeline.arrRef spec0 w) := by dsimp only [dat0]
/-- The state before a point, by the number of the point. -/
theorem Phi0_castSucc (c : Dev nD) (t : Fin cfg0.N) : (dat0 W c).Φ t.castSucc = Phi0 W c t.val (Nat.le_of_lt t.isLt) := by
  dsimp only [dat0]; exact Pipeline.Dat.Φ_castSucc (Phi0 W c) t
/-- What window 0 of the first region holds after a point. -/
theorem after0_0 (c : Dev nD) (t : Fin cfg0.N) : (dat0 W c).after 0 t = iblk0 W c 0 t := by dsimp only [dat0]
/-- What window 1 of the first region holds after a point. -/
theorem after0_1 (c : Dev nD) (t : Fin cfg0.N) : (dat0 W c).after 1 t = iblk0 W c 1 t := by dsimp only [dat0]
/-- What window 2 of the first region holds after a point. -/
theorem after0_2 (c : Dev nD) (t : Fin cfg0.N) : (dat0 W c).after 2 t = sdyOf (accDy W c t.val t.isLt) := by dsimp only [dat0]
/-- What window 3 of the first region holds after a point. -/
theorem after0_3 (c : Dev nD) (t : Fin cfg0.N) : (dat0 W c).after 3 t = idyOf (accDy W c t.val t.isLt) := by dsimp only [dat0]
/-- What window 4 of the first region holds after a point. -/
theorem after0_4 (c : Dev nD) (t : Fin cfg0.N) : (dat0 W c).after 4 t = swOf (accW W c t.val t.isLt) := by dsimp only [dat0]
/-- What window 5 of the first region holds after a point. -/
theorem after0_5 (c : Dev nD) (t : Fin cfg0.N) : (dat0 W c).after 5 t = iwOf (accW W c t.val t.isLt) := by dsimp only [dat0]
/-- What window 0 of the first region holds before a point. -/
theorem before0_0 (c : Dev nD) (t : Fin cfg0.N) (d) : (dat0 W c).before 0 t d = iblk0 W c 0 t :=
  before0_0_of W (dat0 W c) (A0_eq W c 0) (after0_0 W c) t d
/-- What window 1 of the first region holds before a point. -/
theorem before0_1 (c : Dev nD) (t : Fin cfg0.N) (d) : (dat0 W c).before 1 t d = iblk0 W c 1 t :=
  before0_1_of W (dat0 W c) (A0_eq W c 1) (after0_1 W c) t d

/-! ## The body obligation -/

/-- What the body is called with at point `t`. -/
def bodyPre0 (c : Dev nD) (t : Fin cfg0.N) : sProp 𝕄 :=
  iprop((dat0 W c).Φ t.castSucc ∗ (dat0 W c).owesAt () t.castSucc
    ∗ (∃ d, owns (c : Thread nD τ) (ms0_0 t) fullShare ((dat0 W c).before 0 t d))
    ∗ (∃ d, owns (c : Thread nD τ) (ms0_1 t) fullShare ((dat0 W c).before 1 t d))
    ∗ (∃ d, owns (c : Thread nD τ) (ms0_2 t) fullShare ((dat0 W c).before 2 t d))
    ∗ (∃ d, owns (c : Thread nD τ) (ms0_3 t) fullShare ((dat0 W c).before 3 t d))
    ∗ (∃ d, owns (c : Thread nD τ) (ms0_4 t) fullShare ((dat0 W c).before 4 t d))
    ∗ (∃ d, owns (c : Thread nD τ) (ms0_5 t) fullShare ((dat0 W c).before 5 t d)))

/-- What it returns. -/
def bodyPost0 (c : Dev nD) (t : Fin cfg0.N) : sProp 𝕄 :=
  iprop((dat0 W c).Φ t.succ ∗ (dat0 W c).owesAt () t.succ
    ∗ (dat0 W c).leavesExact 0 t
    ∗ (dat0 W c).leavesExact 1 t
    ∗ (dat0 W c).leavesExact 2 t
    ∗ (dat0 W c).leavesExact 3 t
    ∗ (dat0 W c).leavesExact 4 t
    ∗ (dat0 W c).leavesExact 5 t)

/-- A live window is handed back at its named contents. -/
theorem leaves0_live (c : Dev nD) (t : Fin cfg0.N) (w : Fin cfg0.W) (hl : cfg0.idle w (grid0.coords t) = false) (hlo : cfg0.loose w = false) :
    (dat0 W c).leavesExact w t = owns (c : Thread nD τ) ((cfg0.win w).stage (cfg0.slots t w)) fullShare ((dat0 W c).after w t) := by
  unfold Dat.leavesExact; rw [hl]

set_option maxHeartbeats 9600000 in
/-- The body at any point: first, middle or last. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1]
  rw [show (dat0 W c).owesAt () t.succ = (dat0 W c).owesAt () t.castSucc from rfl]
  rw [show (dat0 W c).Φ t.succ = Phi0 W c (t.val + 1) t.isLt from rfl, Phi0_succ]
  have hN : t.val < 8 := lt_of_lt_of_eq t.isLt (show cfg0.N = 8 from N_0)
  rw [leaves0_live W c t 0 rfl rfl, leaves0_live W c t 1 rfl rfl, after0_0, after0_1]
  by_cases h1 : t.val % 8 = 7
  · have hc1 := (hcond0_1 t).mpr h1
    have hc0 : ¬cond0_0 (grid0.coords t) := fun h => by have := (hcond0_0 t).mp h; omega
    have hz : t.val ≠ 0 := by omega
    rw [leaves0_live W c t 2 (live0 t hc1 2) rfl, leaves0_live W c t 3 (live0 t hc1 3) rfl, leaves0_live W c t 4 (live0 t hc1 4) rfl, leaves0_live W c t 5 (live0 t hc1 5) rfl,
      after0_2, after0_3, after0_4, after0_5, Phi0_castSucc W c t, Phi0_pos W c _ _ hz, accDy_pos W c t.val t.isLt hz, accW_pos W c t.val t.isLt hz]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply (body0_C c (grid0.coords t) _ _ _ _ _ _ _ _ _ _ _ _ _ _ _ _ hc0 hc1 (iblk0 W c 0 t) (iblk0 W c 1 t) _ _ Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond0_1 (grid0.coords t) := fun h => h1 ((hcond0_1 t).mp h)
    rw [Dat.leavesExact_idle (dat0 W c) 2 t (idle0 t hc1 2 (by decide)).1 (idle0 t hc1 2 (by decide)).2,
      Dat.leavesExact_idle (dat0 W c) 3 t (idle0 t hc1 3 (by decide)).1 (idle0 t hc1 3 (by decide)).2,
      Dat.leavesExact_idle (dat0 W c) 4 t (idle0 t hc1 4 (by decide)).1 (idle0 t hc1 4 (by decide)).2,
      Dat.leavesExact_idle (dat0 W c) 5 t (idle0 t hc1 5 (by decide)).1 (idle0 t hc1 5 (by decide)).2]
    by_cases hz : t.val = 0
    · have hc0 : cond0_0 (grid0.coords t) := (hcond0_0 t).mpr (by omega)
      rw [Phi0_castSucc W c t, Phi0_zero W c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (body0_A c (grid0.coords t) _ _ _ _ _ _ _ _ _ _ _ _ _ _ _ _ hc0 hc1 (iblk0 W c 0 t) (iblk0 W c 1 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0]
          · rw [accDy_first W c t hz]; iexact HS0
          isplitl [HS1]
          · rw [accW_first W c t hz]; iexact HS1
          iexact HR
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5
    · have hc0 : ¬cond0_0 (grid0.coords t) := fun h => by have := (hcond0_0 t).mp h; omega
      rw [Phi0_castSucc W c t, Phi0_pos W c _ _ hz, accDy_pos W c t.val t.isLt hz, accW_pos W c t.val t.isLt hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (body0_B c (grid0.coords t) _ _ _ _ _ _ _ _ _ _ _ _ _ _ _ _ hc0 hc1 (iblk0 W c 0 t) (iblk0 W c 1 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5

/-- The body table's row at point `t` is the body. -/
theorem row0 (t : Fin cfg0.N) : defs₀ (F := F) .tc cfg0.body (cfg0.bodyArgs t (cfg0.slots t)) = bodyAt0 t := by
  unfold defs₀; rw [Defs.onTc_tc]

/-- Region 0's body obligation. -/
theorem body_obligation0 (c : Dev nD) : BodyObligation (dat0 W c) (defs₀ (F := F)) Variants.none () Set.univ := fun t => by
  rw [bigSep_W0, bigSep_W0, row0]
  exact triple_restated (sound_body0 W c t) rfl .rfl fun _ => .rfl

/-- What the launch hands region 0 is the invariant before the first point. -/
theorem hin0 (c : Dev nD) : Pipeline.ΦA spec0 c ⊢ (dat0 W c).Φ 0 := by
  rw [show (dat0 W c).Φ 0 = Phi0 W c 0 (Nat.zero_le _) from rfl, Phi0_zero W c 0 _ rfl]

/-- After the last point the invariant gives it back. -/
theorem hout0 (c : Dev nD) : (dat0 W c).Φ (Fin.last cfg0.N) ⊢ Pipeline.ΦA spec0 c := by
  have hz : (Fin.last cfg0.N).val ≠ 0 := by rw [Fin.val_last]; have : cfg0.N = 8 := N_0; omega
  rw [show (dat0 W c).Φ (Fin.last cfg0.N) = Phi0 W c (Fin.last cfg0.N).val (Nat.le_of_lt_succ (Fin.last cfg0.N).isLt) from rfl, Phi0_pos W c _ _ hz, PhiA0_eq]
  iintro ⟨⟨HS0, HS1, HR⟩, Hg⟩
  isplitl [HS0 HS1 HR]
  · isplitl [HS0]
    · iexists _; iexact HS0
    isplitl [HS1]
    · iexists _; iexact HS1
    iexact HR
  iexact Hg

end Cert.KernelIdeal.Hand

end
-- ==== Proof.Body1.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.VecWindow
public import Idealize.ShloMosaic.Lib.Ring
public import Idealize.ShloMosaic.Lib.Pipeline.FrameBody
public import Idealize.ShloMosaic.Lib.Tactic
public import Idealize.ShloMosaic.Lib.WordCmp
public import Idealize.ShloMosaic.Lib.Pipeline.ReadBack

@[expose] public section

/-!
  The second kernel's body (quantisation and product): what one grid point leaves in its buffers, with the contents
  named by the kernel's own expressions, at any reading of the float formats.
-/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The values a grid point computes -/

/-- The one number a `1×1` buffer holds. -/
def one (x : Vec F S1x1 .f32) : F .f32 := x (Shape.Idx.first (by decide))

/-- Whatever the index, it is that number. -/
theorem read_one (x : Vec F S1x1 .f32) (j : S1x1.Idx) : x j = one x :=
  congrArg x (funext fun a => Fin.ext (by
    have h1 := (j a).isLt
    have h2 := ((Shape.Idx.first (s := S1x1) (by decide)) a).isLt
    have h3 := (show ∀ a, S1x1.size a = 1 by decide) a
    omega))

/-- 512 rows of the quantised `dy`, from row `o`. -/
def dyRows (q : Vec F S4096x1024 .fp8e5m2) (o : ℕ) (h : ∀ a, (![o, 0] : Fin 2 → ℕ) a + S512x1024.size a ≤ S4096x1024.size a) : Vec F S512x1024 .fp8e5m2 :=
  View.ld (Val := Elt F) q (Rect.unit (s := S4096x1024) ![o, 0] S512x1024.size h)

/-- The eight blocks of the product the body stores, the last stored first: block `r` is 512 rows of the quantised `dy` against the
    quantised rows of `w`, times the scale, rounded. -/
def dxPieces (s : F .f32) (rows : (o : ℕ) → (∀ a, (![o, 0] : Fin 2 → ℕ) a + S512x1024.size a ≤ S4096x1024.size a) → Vec F S512x1024 .fp8e5m2) (wq : Vec F S512x1024 .fp8e4m3) : List (View.Piece (Elt F) S512x8x512 .bf16) :=
  [ ⟨Rect.unit (s := S512x8x512) ![448, 0, 0] S64x8x512.size inb_S512x8x512_S64x8x512_448_0_0, k1_pay8 s (rows 3584 inb_S4096x1024_S512x1024_3584_0) wq⟩,
    ⟨Rect.unit (s := S512x8x512) ![384, 0, 0] S64x8x512.size inb_S512x8x512_S64x8x512_384_0_0, k1_pay8 s (rows 3072 inb_S4096x1024_S512x1024_3072_0) wq⟩,
    ⟨Rect.unit (s := S512x8x512) ![320, 0, 0] S64x8x512.size inb_S512x8x512_S64x8x512_320_0_0, k1_pay8 s (rows 2560 inb_S4096x1024_S512x1024_2560_0) wq⟩,
    ⟨Rect.unit (s := S512x8x512) ![256, 0, 0] S64x8x512.size inb_S512x8x512_S64x8x512_256_0_0, k1_pay8 s (rows 2048 inb_S4096x1024_S512x1024_2048_0) wq⟩,
    ⟨Rect.unit (s := S512x8x512) ![192, 0, 0] S64x8x512.size inb_S512x8x512_S64x8x512_192_0_0, k1_pay8 s (rows 1536 inb_S4096x1024_S512x1024_1536_0) wq⟩,
    ⟨Rect.unit (s := S512x8x512) ![128, 0, 0] S64x8x512.size inb_S512x8x512_S64x8x512_128_0_0, k1_pay8 s (rows 1024 inb_S4096x1024_S512x1024_1024_0) wq⟩,
    ⟨Rect.unit (s := S512x8x512) ![64, 0, 0] S64x8x512.size inb_S512x8x512_S64x8x512_64_0_0, k1_pay8 s (rows 512 inb_S4096x1024_S512x1024_512_0) wq⟩,
    ⟨Rect.unit (s := S512x8x512) ![0, 0, 0] S64x8x512.size inb_S512x8x512_S64x8x512_0_0_0, k1_pay8 s (rows 0 inb_S4096x1024_S512x1024_0_0) wq⟩ ]

/-- The block of the product the body leaves. -/
def dxOf (s : F .f32) (q : Vec F S4096x1024 .fp8e5m2) (wq : Vec F S512x1024 .fp8e4m3) : Vec F S512x8x512 .bf16 := View.canon (dxPieces s (dyRows q) wq)

/-- The eight blocks fill the whole buffer. -/
theorem dxPieces_cover (s : F .f32) (rows : (o : ℕ) → (∀ a, (![o, 0] : Fin 2 → ℕ) a + S512x1024.size a ≤ S4096x1024.size a) → Vec F S512x1024 .fp8e5m2)
    (wq : Vec F S512x1024 .fp8e4m3) (y : S512x8x512.Idx) : ∃ p ∈ dxPieces s rows wq, y ∈ p.1.set :=
  View.cover_of_tiledL (dxPieces s rows wq) S64x8x512.size (by sl_kernel_rfl) y

/-- The point is the first one: the body quantises `dy`. -/
abbrev cond1_0 (i : grid1.Coords) : Prop := k1_cond1 i = 1#1

set_option maxHeartbeats 1000000 in
/-- The first point: the body quantises `dy` and the point's rows of `w`, and multiplies. -/
theorem body1_A (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x8x512 .bf16) (harg7 : arg7.IsWhole) (arg8 : Memref sig .tc .vmem S4096x1024 .fp8e5m2) (harg8 : arg8.IsWhole) (arg9 : Memref sig .tc .vmem S512x1024 .fp8e4m3) (harg9 : arg9.IsWhole) (hc0 : cond1_0 i)
    (x0 x1 x2 x3 : Vec F S1x1 .f32) (x4 : Vec F S4096x1024 .bf16) (x5 : Vec F S512x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dxOf (k1_pay3 (one x0) (one x2)) (k1_pay1 x4 (one x1)) (k1_pay2 x5 (one x3)))
            ∗ owns (c : Thread nD τ) arg8 fullShare (k1_pay1 x4 (one x1)) ∗ owns (c : Thread nD τ) arg9 fullShare (k1_pay2 x5 (one x3))) -∗ K ⟨⟩))
      ⊢ wp frame (wpE (defs₀ (F := F)) Variants.none c none) E (cc1_quant_matmul i arg1 harg1 arg2 harg2 arg3 harg3 arg4 harg4 arg5 harg5 arg6 harg6 arg7 harg7 arg8 harg8 arg9 harg9) K := by
  simp only [cc1_quant_matmul_eq_skeleton]; unfold cc1_quant_matmul_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  have e0 : View.readAt (Elt F) arg1.view (Rect.unit (s := S1x1) ![0, 0] S1x1.size inb_S1x1_S1x1_0_0).toLoadRect (harg1.unread x0) (Shape.Idx.first (by decide)) = one x0 :=
    (congrFun ((View.readAt_full _ _ _).trans (harg1.read_unread _)) _).trans (read_one _ _)
  have e1 : View.readAt (Elt F) arg2.view (Rect.unit (s := S1x1) ![0, 0] S1x1.size inb_S1x1_S1x1_0_0).toLoadRect (harg2.unread x1) (Shape.Idx.first (by decide)) = one x1 :=
    (congrFun ((View.readAt_full _ _ _).trans (harg2.read_unread _)) _).trans (read_one _ _)
  have e2 : View.readAt (Elt F) arg3.view (Rect.unit (s := S1x1) ![0, 0] S1x1.size inb_S1x1_S1x1_0_0).toLoadRect (harg3.unread x2) (Shape.Idx.first (by decide)) = one x2 :=
    (congrFun ((View.readAt_full _ _ _).trans (harg3.read_unread _)) _).trans (read_one _ _)
  have e3 : View.readAt (Elt F) arg4.view (Rect.unit (s := S1x1) ![0, 0] S1x1.size inb_S1x1_S1x1_0_0).toLoadRect (harg4.unread x3) (Shape.Idx.first (by decide)) = one x3 :=
    (congrFun ((View.readAt_full _ _ _).trans (harg4.read_unread _)) _).trans (read_one _ _)
  have ew : body1_A.sl.v18 c arg4 harg4 arg6 harg6 arg9 x3 x5 = k1_pay2 x5 (one x3) :=
    (View.readCov_full _ inb_S512x1024_S512x1024_0_0 inb_S512x1024_S512x1024_0_0 _ _).trans (congrArg₂ k1_pay2 ((View.readAt_full _ _ _).trans (harg6.read_unread _)) e3)
  have eq8 : k1_pay1 (View.readAt (Elt F) arg5.view (Rect.unit (s := S4096x1024) ![0, 0] S4096x1024.size inb_S4096x1024_S4096x1024_0_0).toLoadRect (harg5.unread x4)) (View.readAt (Elt F) arg2.view (Rect.unit (s := S1x1) ![0, 0] S1x1.size inb_S1x1_S1x1_0_0).toLoadRect (harg2.unread x1) (Shape.Idx.first (by decide))) = k1_pay1 x4 (one x1) :=
    congrArg₂ k1_pay1 ((View.readAt_full _ _ _).trans (harg5.read_unread _)) e1
  have er : (fun (o : ℕ) (h : ∀ a, (![o, 0] : Fin 2 → ℕ) a + S512x1024.size a ≤ S4096x1024.size a) => (arg8.view.readCov (body1_A.sl.H7_1 c arg2 harg2 arg5 harg5 x1 x4) (Rect.unit (s := S4096x1024) ![o, 0] S512x1024.size h).toLoadRect : Vec F S512x1024 .fp8e5m2)) = dyRows (k1_pay1 x4 (one x1)) :=
    funext fun o => funext fun h => (View.readCov_fill _ inb_S4096x1024_S4096x1024_0_0 _ _ _ (by decide)).trans (congrArg (fun z => dyRows z o h) eq8)
  have es := congrArg₂ k1_pay3 e0 e2
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; refine (View.read_writes_eq_canon arg7.view f6 (dxPieces (body1_A.sl.r_4 c arg1 harg1 arg3 harg3 x0 x2) (fun o h => arg8.view.readCov (body1_A.sl.H7_1 c arg2 harg2 arg5 harg5 x1 x4) (Rect.unit (s := S4096x1024) ![o, 0] S512x1024.size h).toLoadRect) (body1_A.sl.v18 c arg4 harg4 arg6 harg6 arg9 x3 x5)) (dxPieces_cover _ _ _)).trans ?_
    rw [er, ew, show body1_A.sl.r_4 c arg1 harg1 arg3 harg3 x0 x2 = _ from es]; rfl
  isplitl [H7]
  · iexists _; isplitr; swap; · iexact H7
    ipureintro; exact (View.read_writes_full _ _ inb_S4096x1024_S4096x1024_0_0 _ _).trans eq8
  iexists _; isplitr; swap; · iexact H8
  ipureintro; exact (View.read_writes_full _ _ inb_S512x1024_S512x1024_0_0 _ _).trans (congrArg₂ k1_pay2 ((View.readAt_full _ _ _).trans (harg6.read_unread _)) e3)

set_option maxHeartbeats 1000000 in
/-- A later point: the quantised `dy` is already there; the body quantises the point's rows of `w` and multiplies. -/
theorem body1_B (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x8x512 .bf16) (harg7 : arg7.IsWhole) (arg8 : Memref sig .tc .vmem S4096x1024 .fp8e5m2) (harg8 : arg8.IsWhole) (arg9 : Memref sig .tc .vmem S512x1024 .fp8e4m3) (harg9 : arg9.IsWhole) (hc0 : ¬cond1_0 i)
    (x0 x1 x2 x3 : Vec F S1x1 .f32) (x4 : Vec F S4096x1024 .bf16) (x5 : Vec F S512x1024 .f32) (q : Vec F S4096x1024 .fp8e5m2) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare q ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dxOf (k1_pay3 (one x0) (one x2)) (q) (k1_pay2 x5 (one x3)))
            ∗ owns (c : Thread nD τ) arg8 fullShare (q) ∗ owns (c : Thread nD τ) arg9 fullShare (k1_pay2 x5 (one x3))) -∗ K ⟨⟩))
      ⊢ wp frame (wpE (defs₀ (F := F)) Variants.none c none) E (cc1_quant_matmul i arg1 harg1 arg2 harg2 arg3 harg3 arg4 harg4 arg5 harg5 arg6 harg6 arg7 harg7 arg8 harg8 arg9 harg9) K := by
  simp only [cc1_quant_matmul_eq_skeleton]; unfold cc1_quant_matmul_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
  sl_exec (disch := first | sl_exact hc0)
  sl_step
  iapply Hk
  have e0 : View.readAt (Elt F) arg1.view (Rect.unit (s := S1x1) ![0, 0] S1x1.size inb_S1x1_S1x1_0_0).toLoadRect (harg1.unread x0) (Shape.Idx.first (by decide)) = one x0 :=
    (congrFun ((View.readAt_full _ _ _).trans (harg1.read_unread _)) _).trans (read_one _ _)
  have e2 : View.readAt (Elt F) arg3.view (Rect.unit (s := S1x1) ![0, 0] S1x1.size inb_S1x1_S1x1_0_0).toLoadRect (harg3.unread x2) (Shape.Idx.first (by decide)) = one x2 :=
    (congrFun ((View.readAt_full _ _ _).trans (harg3.read_unread _)) _).trans (read_one _ _)
  have e3 : View.readAt (Elt F) arg4.view (Rect.unit (s := S1x1) ![0, 0] S1x1.size inb_S1x1_S1x1_0_0).toLoadRect (harg4.unread x3) (Shape.Idx.first (by decide)) = one x3 :=
    (congrFun ((View.readAt_full _ _ _).trans (harg4.read_unread _)) _).trans (read_one _ _)
  have ew : body1_B.sl.v18 c arg4 harg4 arg6 harg6 arg9 x3 x5 = k1_pay2 x5 (one x3) :=
    (View.readCov_full _ inb_S512x1024_S512x1024_0_0 inb_S512x1024_S512x1024_0_0 _ _).trans (congrArg₂ k1_pay2 ((View.readAt_full _ _ _).trans (harg6.read_unread _)) e3)
  have er : (fun (o : ℕ) (h : ∀ a, (![o, 0] : Fin 2 → ℕ) a + S512x1024.size a ≤ S4096x1024.size a) => (View.readAt (Elt F) arg8.view (Rect.unit (s := S4096x1024) ![o, 0] S512x1024.size h).toLoadRect (harg8.unread q) : Vec F S512x1024 .fp8e5m2)) = dyRows q :=
    funext fun o => funext fun h => congrArg (fun z => dyRows z o h) (harg8.read_unread q)
  have es := congrArg₂ k1_pay3 e0 e2
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; refine (View.read_writes_eq_canon arg7.view f6 (dxPieces (body1_B.sl.r_3 c arg1 harg1 arg3 harg3 x0 x2) (fun o h => View.readAt (Elt F) arg8.view (Rect.unit (s := S4096x1024) ![o, 0] S512x1024.size h).toLoadRect (harg8.unread q)) (body1_B.sl.v18 c arg4 harg4 arg6 harg6 arg9 x3 x5)) (dxPieces_cover _ _ _)).trans ?_
    rw [er, ew, show body1_B.sl.r_3 c arg1 harg1 arg3 harg3 x0 x2 = _ from es]; rfl
  isplitl [H7]
  · iexists _; isplitr; swap; · iexact H7
    ipureintro; exact hf7
  iexists _; isplitr; swap; · iexact H8
  ipureintro; exact (View.read_writes_full _ _ inb_S512x1024_S512x1024_0_0 _ _).trans (congrArg₂ k1_pay2 ((View.readAt_full _ _ _).trans (harg6.read_unread _)) e3)

end Cert.KernelIdeal.Hand

end
-- ==== Proof.Seg1.lean ====
/-
  Region 1, the quantising matmul: what the region's proof data says. The last block of `w` is cut, so the rows of the staging buffer past the
  array's end hold anything: the outputs are described by relations that hold for some filling `d` of those rows.
-/
module

public import proofs.«01_k».proof.Proof.Body1
public import Idealize.ShloMosaic.Lib.Pipeline.DatRel

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

variable (W : Dev nD → Valuation τ sig (Elt F))

/-- Window `w`'s block at point `t` of region 1, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- Input window 0 holds its block at every point. -/
theorem before1_0_of {c : Dev nD} (dat : Dat τ (Elt F) Unit ℕ (UR sig nD τ) ℕ cfg1 c) (hA : dat.A 0 = W c (Pipeline.arrRef spec1 0))
    (hafter : ∀ t, dat.after 0 t = iblk1 W c 0 t) (t : Fin cfg1.N) (d) : dat.before 0 t d = iblk1 W c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block at every point. -/
theorem before1_1_of {c : Dev nD} (dat : Dat τ (Elt F) Unit ℕ (UR sig nD τ) ℕ cfg1 c) (hA : dat.A 1 = W c (Pipeline.arrRef spec1 1))
    (hafter : ∀ t, dat.after 1 t = iblk1 W c 1 t) (t : Fin cfg1.N) (d) : dat.before 1 t d = iblk1 W c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block at every point. -/
theorem before1_2_of {c : Dev nD} (dat : Dat τ (Elt F) Unit ℕ (UR sig nD τ) ℕ cfg1 c) (hA : dat.A 2 = W c (Pipeline.arrRef spec1 2))
    (hafter : ∀ t, dat.after 2 t = iblk1 W c 2 t) (t : Fin cfg1.N) (d) : dat.before 2 t d = iblk1 W c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 holds its block at every point. -/
theorem before1_3_of {c : Dev nD} (dat : Dat τ (Elt F) Unit ℕ (UR sig nD τ) ℕ cfg1 c) (hA : dat.A 3 = W c (Pipeline.arrRef spec1 3))
    (hafter : ∀ t, dat.after 3 t = iblk1 W c 3 t) (t : Fin cfg1.N) (d) : dat.before 3 t d = iblk1 W c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 holds its block at every point. -/
theorem before1_4_of {c : Dev nD} (dat : Dat τ (Elt F) Unit ℕ (UR sig nD τ) ℕ cfg1 c) (hA : dat.A 4 = W c (Pipeline.arrRef spec1 4))
    (hafter : ∀ t, dat.after 4 t = iblk1 W c 4 t) (t : Fin cfg1.N) (d) : dat.before 4 t d = iblk1 W c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The branch condition and the schedule -/

/-- The branch is taken at the first point only. -/
theorem hcond1_0 : ∀ t : Fin cfg1.N, cond1_0 (grid1.coords t) ↔ t.val % 19 = 0 :=
  (fun t => by
    have ht : t.val < 19 := Nat.lt_of_lt_of_eq t.isLt N_1
    have e0 : (grid1.coords t 0).val = t.val / 1 % 19 := Pipeline.Grid.coords_val t 0 (by decide) rfl
    simp only [cond1_0, k1_cond1, e0]
    word_cmp
   : ∀ t : Fin grid1.N, cond1_0 (grid1.coords t) ↔ t.val % 19 = 0)

/-- The block of `w` is fetched at every point. -/
theorem fetch1_5 : ∀ t : Fin cfg1.N, (cfg1.win 5).fetch t = true := by decide +kernel
/-- The codes of `dy` are never fetched. -/
theorem fetch1_7 : ∀ t : Fin cfg1.N, (cfg1.win 7).fetch t = false := by decide +kernel
/-- They are written back at the last point only. -/
theorem flush1_7 : ∀ t : Fin cfg1.N, t.val ≠ 18 → (cfg1.win 7).flush t = false := by decide +kernel

/-! ## The current buffers -/

/-- Window 0 of the second region as a buffer of the chip. -/
abbrev ms1_0 (t : Fin cfg1.N) : Memref sig .tc .smem S1x1 .f32 := win1_0.stage (cfg1.slots t 0)
/-- Window 1 of the second region as a buffer of the chip. -/
abbrev ms1_1 (t : Fin cfg1.N) : Memref sig .tc .smem S1x1 .f32 := win1_1.stage (cfg1.slots t 1)
/-- Window 2 of the second region as a buffer of the chip. -/
abbrev ms1_2 (t : Fin cfg1.N) : Memref sig .tc .smem S1x1 .f32 := win1_2.stage (cfg1.slots t 2)
/-- Window 3 of the second region as a buffer of the chip. -/
abbrev ms1_3 (t : Fin cfg1.N) : Memref sig .tc .smem S1x1 .f32 := win1_3.stage (cfg1.slots t 3)
/-- Window 4 of the second region as a buffer of the chip. -/
abbrev ms1_4 (t : Fin cfg1.N) : Memref sig .tc .vmem S4096x1024 .bf16 := win1_4.stage (cfg1.slots t 4)
/-- Window 5 of the second region as a buffer of the chip. -/
abbrev ms1_5 (t : Fin cfg1.N) : Memref sig .tc .vmem S512x1024 .f32 := win1_5.stage (cfg1.slots t 5)
/-- Window 6 of the second region as a buffer of the chip. -/
abbrev ms1_6 (t : Fin cfg1.N) : Memref sig .tc .vmem S512x8x512 .bf16 := win1_6.stage (cfg1.slots t 6)
/-- Window 7 of the second region as a buffer of the chip. -/
abbrev ms1_7 (t : Fin cfg1.N) : Memref sig .tc .vmem S4096x1024 .fp8e5m2 := win1_7.stage (cfg1.slots t 7)
/-- Window 8 of the second region as a buffer of the chip. -/
abbrev ms1_8 (t : Fin cfg1.N) : Memref sig .tc .vmem S512x1024 .fp8e4m3 := win1_8.stage (cfg1.slots t 8)

/-! ## The proof data -/

/-- The first point. -/
abbrev first1 : Fin cfg1.N := ⟨0, by rw [show cfg1.N = 19 from N_1]; decide⟩

/-- The codes of `dy`. -/
def dyqOf (c : Dev nD) : Vec F S4096x1024 .fp8e5m2 := k1_pay1 (iblk1 W c 4 first1) (one (iblk1 W c 1 first1))

/-- The block of `w` as the body finds it at point `t`: the array's rows, and `d` past the array's end. -/
def wFill (c : Dev nD) (t : Fin cfg1.N) (d : Vec F S512x1024 .f32) : Vec F S512x1024 .f32 :=
  (cfg1.win 5).fill (cfg1.grid.coords t) d (iblk1 W c 5 t)

/-- The codes of that block. -/
def wqFill (c : Dev nD) (t : Fin cfg1.N) (d : Vec F S512x1024 .f32) : Vec F S512x1024 .fp8e4m3 :=
  k1_pay2 (wFill W c t d) (one (iblk1 W c 3 t))

/-- The product over that block. -/
def dxFill (c : Dev nD) (t : Fin cfg1.N) (d : Vec F S512x1024 .f32) : Vec F S512x8x512 .bf16 :=
  dxOf (k1_pay3 (one (iblk1 W c 0 t)) (one (iblk1 W c 2 t))) (dyqOf W c) (wqFill W c t d)

/-- Region 1's proof data on the input windows; the last four are held to relations (`Rl1`). -/
def dat1 (c : Dev nD) : Dat τ (Elt F) Unit ℕ (UR sig nD τ) ℕ cfg1 c where
  A w := W c (Pipeline.arrRef spec1 w)
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => Classical.arbitrary _
    | ⟨6, _⟩ => Classical.arbitrary _
    | ⟨7, _⟩ => Classical.arbitrary _
    | ⟨8, _⟩ => Classical.arbitrary _
  Φ _ := Pipeline.ΦA spec1 c
  q _ := fullShare
  owed _ := 0

/-- The windows held to relations. -/
def fg1 : Fin cfg1.W → Bool := fun | 0 => false | 1 => false | 2 => false | 3 => false | 4 => false | 5 => true | 6 => true | 7 => true | 8 => true | ⟨_ + 9, h⟩ => absurd h (Nat.not_lt.2 (Nat.le_add_left _ _))

/-- What the body leaves in them. -/
def Rl1 (c : Dev nD) : (w : Fin cfg1.W) → Fin cfg1.N → ((cfg1.win w).block.Idx → Elt F (cfg1.win w).elt) → Prop := fun w t => match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => ∃ d, X = dxFill W c t d
  | ⟨7, _⟩ => fun X => X = dyqOf W c
  | ⟨8, _⟩ => fun X => ∃ d, X = wqFill W c t d

/-- The region's data read relationally. -/
abbrev rdat1 (c : Dev nD) : RDat τ (Elt F) Unit ℕ (UR sig nD τ) ℕ cfg1 c := (dat1 W c).toRRel fg1 (Rl1 W c)

/-- The arrays the second region starts from. -/
theorem A1_eq (c : Dev nD) (w : Fin cfg1.W) : (dat1 W c).A w = W c (Pipeline.arrRef spec1 w) := by dsimp only [dat1]
/-- What window 0 of the second region holds after a point. -/
theorem after1_0 (c : Dev nD) (t : Fin cfg1.N) : (dat1 W c).after 0 t = iblk1 W c 0 t := by dsimp only [dat1]
/-- What window 1 of the second region holds after a point. -/
theorem after1_1 (c : Dev nD) (t : Fin cfg1.N) : (dat1 W c).after 1 t = iblk1 W c 1 t := by dsimp only [dat1]
/-- What window 2 of the second region holds after a point. -/
theorem after1_2 (c : Dev nD) (t : Fin cfg1.N) : (dat1 W c).after 2 t = iblk1 W c 2 t := by dsimp only [dat1]
/-- What window 3 of the second region holds after a point. -/
theorem after1_3 (c : Dev nD) (t : Fin cfg1.N) : (dat1 W c).after 3 t = iblk1 W c 3 t := by dsimp only [dat1]
/-- What window 4 of the second region holds after a point. -/
theorem after1_4 (c : Dev nD) (t : Fin cfg1.N) : (dat1 W c).after 4 t = iblk1 W c 4 t := by dsimp only [dat1]
/-- What window 0 of the second region holds before a point. -/
theorem before1_0 (c : Dev nD) (t : Fin cfg1.N) (d) : (dat1 W c).before 0 t d = iblk1 W c 0 t :=
  before1_0_of W (dat1 W c) (A1_eq W c 0) (after1_0 W c) t d
/-- What window 1 of the second region holds before a point. -/
theorem before1_1 (c : Dev nD) (t : Fin cfg1.N) (d) : (dat1 W c).before 1 t d = iblk1 W c 1 t :=
  before1_1_of W (dat1 W c) (A1_eq W c 1) (after1_1 W c) t d
/-- What window 2 of the second region holds before a point. -/
theorem before1_2 (c : Dev nD) (t : Fin cfg1.N) (d) : (dat1 W c).before 2 t d = iblk1 W c 2 t :=
  before1_2_of W (dat1 W c) (A1_eq W c 2) (after1_2 W c) t d
/-- What window 3 of the second region holds before a point. -/
theorem before1_3 (c : Dev nD) (t : Fin cfg1.N) (d) : (dat1 W c).before 3 t d = iblk1 W c 3 t :=
  before1_3_of W (dat1 W c) (A1_eq W c 3) (after1_3 W c) t d
/-- What window 4 of the second region holds before a point. -/
theorem before1_4 (c : Dev nD) (t : Fin cfg1.N) (d) : (dat1 W c).before 4 t d = iblk1 W c 4 t :=
  before1_4_of W (dat1 W c) (A1_eq W c 4) (after1_4 W c) t d

/-- What the body finds of the block of `w`: the array's rows, anything past the end. -/
theorem finds1_5 (c : Dev nD) (t : Fin cfg1.N) (Y) (h : (rdat1 W c).Finds 5 t Y) : ∃ d, Y = wFill W c t d := by
  obtain ⟨d, hd⟩ := ((rdat1 W c).finds_of_fetch (fetch1_5 t) Y).mp h
  exact ⟨d, hd⟩

/-- After the first point the body finds the codes of `dy`. -/
theorem finds1_7 (c : Dev nD) (t : Fin cfg1.N) (ht : t.val ≠ 0) (Y) (h : (rdat1 W c).Finds 7 t Y) : Y = dyqOf W c := by
  have hN : t.val < 19 := lt_of_lt_of_eq t.isLt (show cfg1.N = 19 from N_1)
  rcases ((rdat1 W c).finds_of_pos (fetch1_7 t) ht Y).mp h with hf | hl
  · rw [flush1_7 _ (show t.val - 1 ≠ 18 by omega)] at hf; exact absurd hf Bool.false_ne_true
  · exact (dat1 W c).toRRel_leaves (fgt := fg1) (Rl := Rl1 W c) (w := 7) rfl hl

/-! ## The body obligation -/

/-- What the body is called with at point `t`. -/
def bodyPre1 (c : Dev nD) (t : Fin cfg1.N) : sProp 𝕄 :=
  iprop((dat1 W c).Φ t.castSucc ∗ (dat1 W c).owesAt () t.castSucc
    ∗ (∃ d, owns (c : Thread nD τ) (ms1_0 t) fullShare ((dat1 W c).before 0 t d))
    ∗ (∃ d, owns (c : Thread nD τ) (ms1_1 t) fullShare ((dat1 W c).before 1 t d))
    ∗ (∃ d, owns (c : Thread nD τ) (ms1_2 t) fullShare ((dat1 W c).before 2 t d))
    ∗ (∃ d, owns (c : Thread nD τ) (ms1_3 t) fullShare ((dat1 W c).before 3 t d))
    ∗ (∃ d, owns (c : Thread nD τ) (ms1_4 t) fullShare ((dat1 W c).before 4 t d))
    ∗ (∃ Y, ⌜(rdat1 W c).Finds 5 t Y⌝ ∗ owns (c : Thread nD τ) (ms1_5 t) fullShare Y)
    ∗ (∃ Y, ⌜(rdat1 W c).Finds 6 t Y⌝ ∗ owns (c : Thread nD τ) (ms1_6 t) fullShare Y)
    ∗ (∃ Y, ⌜(rdat1 W c).Finds 7 t Y⌝ ∗ owns (c : Thread nD τ) (ms1_7 t) fullShare Y)
    ∗ (∃ Y, ⌜(rdat1 W c).Finds 8 t Y⌝ ∗ owns (c : Thread nD τ) (ms1_8 t) fullShare Y))

/-- What it returns. -/
def bodyPost1 (c : Dev nD) (t : Fin cfg1.N) : sProp 𝕄 :=
  iprop((dat1 W c).Φ t.succ ∗ (dat1 W c).owesAt () t.succ
    ∗ owns (c : Thread nD τ) (ms1_0 t) fullShare (iblk1 W c 0 t)
    ∗ owns (c : Thread nD τ) (ms1_1 t) fullShare (iblk1 W c 1 t)
    ∗ owns (c : Thread nD τ) (ms1_2 t) fullShare (iblk1 W c 2 t)
    ∗ owns (c : Thread nD τ) (ms1_3 t) fullShare (iblk1 W c 3 t)
    ∗ owns (c : Thread nD τ) (ms1_4 t) fullShare (iblk1 W c 4 t)
    ∗ (∃ X, ⌜Rl1 W c 5 t X⌝ ∗ owns (c : Thread nD τ) (ms1_5 t) fullShare X)
    ∗ (∃ X, ⌜Rl1 W c 6 t X⌝ ∗ owns (c : Thread nD τ) (ms1_6 t) fullShare X)
    ∗ (∃ X, ⌜Rl1 W c 7 t X⌝ ∗ owns (c : Thread nD τ) (ms1_7 t) fullShare X)
    ∗ (∃ X, ⌜Rl1 W c 8 t X⌝ ∗ owns (c : Thread nD τ) (ms1_8 t) fullShare X))

set_option maxHeartbeats 9600000 in
/-- The body at any point: the first quantises `dy`, the others find its codes. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4]
  rw [show (dat1 W c).owesAt () t.succ = (dat1 W c).owesAt () t.castSucc from rfl]
  rw [show (dat1 W c).Φ t.succ = (dat1 W c).Φ t.castSucc from rfl]
  have hN : t.val < 19 := lt_of_lt_of_eq t.isLt (show cfg1.N = 19 from N_1)
  by_cases hz : t.val = 0
  · have hc0 : cond1_0 (grid1.coords t) := (hcond1_0 t).mpr (by omega)
    have ht : t = first1 := Fin.ext hz
    iintro ⟨HΦ, Ho, ⟨%d0, H0⟩, ⟨%d1, H1⟩, ⟨%d2, H2⟩, ⟨%d3, H3⟩, ⟨%d4, H4⟩, ⟨%Y5, %h5, H5⟩, ⟨%Y6, -, H6⟩, ⟨%Y7, -, H7⟩, ⟨%Y8, -, H8⟩⟩
    obtain ⟨d, hd⟩ := finds1_5 W c t Y5 h5
    iapply (body1_A c (grid1.coords t) _ _ _ _ _ _ _ _ _ _ _ _ _ _ _ _ _ _ hc0 (iblk1 W c 0 t) (iblk1 W c 1 t) (iblk1 W c 2 t) (iblk1 W c 3 t) (iblk1 W c 4 t) Y5 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      swap; · iexact H5
      ipureintro; trivial
    isplitl [H6]
    · iexists _; isplitr
      swap; · iexact H6
      ipureintro; exact ⟨d, by rw [hd]; unfold dxFill wqFill dyqOf; rw [ht]⟩
    isplitl [H7]
    · iexists _; isplitr
      swap; · iexact H7
      ipureintro; show _ = dyqOf W c; unfold dyqOf; rw [ht]
    iexists _; isplitr
    swap; · iexact H8
    ipureintro; exact ⟨d, by rw [hd]; rfl⟩
  · have hc0 : ¬cond1_0 (grid1.coords t) := fun h => hz (by have := (hcond1_0 t).mp h; omega)
    iintro ⟨HΦ, Ho, ⟨%d0, H0⟩, ⟨%d1, H1⟩, ⟨%d2, H2⟩, ⟨%d3, H3⟩, ⟨%d4, H4⟩, ⟨%Y5, %h5, H5⟩, ⟨%Y6, -, H6⟩, ⟨%Y7, %h7, H7⟩, ⟨%Y8, -, H8⟩⟩
    obtain ⟨d, hd⟩ := finds1_5 W c t Y5 h5
    have h7' := finds1_7 W c t hz Y7 h7
    iapply (body1_B c (grid1.coords t) _ _ _ _ _ _ _ _ _ _ _ _ _ _ _ _ _ _ hc0 (iblk1 W c 0 t) (iblk1 W c 1 t) (iblk1 W c 2 t) (iblk1 W c 3 t) (iblk1 W c 4 t) Y5 Y7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      swap; · iexact H5
      ipureintro; trivial
    isplitl [H6]
    · iexists _; isplitr
      swap; · iexact H6
      ipureintro; exact ⟨d, by rw [hd, h7']; rfl⟩
    isplitl [H7]
    · iexists _; isplitr
      swap; · iexact H7
      ipureintro; exact h7'
    iexists _; isplitr
    swap; · iexact H8
    ipureintro; exact ⟨d, by rw [hd]; rfl⟩

/-- The body table's row at point `t` is the body. -/
theorem row1 (t : Fin cfg1.N) : defs₀ (F := F) .tc cfg1.body (cfg1.bodyArgs t (cfg1.slots t)) = bodyAt1 t := by
  unfold defs₀; rw [Defs.onTc_tc]

/-- Region 1's body obligation. -/
theorem body_obligation1 (c : Dev nD) : BodyObligationRel (dat1 W c) (defs₀ (F := F)) Variants.none () Set.univ fg1 (Rl1 W c) := fun t => by
  rw [bigSep_W1, bigSep_W1, row1]
  exact triple_restated (sound_body1 W c t) rfl .rfl fun _ => .rfl

end Cert.KernelIdeal.Hand

end
-- ==== Proof.Run.lean ====
/-
  The run of `main`: the two regions as segments, the host stretches around them, and what the final memory holds.
-/
module

public import proofs.«01_k».proof.Proof.Seg0
public import proofs.«01_k».proof.Proof.Seg1
public import proofs.«01_k».proof.Proof.Gen.KernelIdeal.Regions
public import Idealize.ShloMosaic.Lib.Pipeline.RegionArraysF
public import Idealize.ShloMosaic.Lib.Pipeline.RegionsOwned

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel HostSeg)

variable {F : FTy → Type} [FloatOps F]

local notation "𝕄" => MT nD τ sig Unit (Elt F) ℕ (UR sig nD τ) ℕ

/-! ## What the regions leave in their arrays -/

/-- The entry contents of region 0: the launch contents after the first host stretch. -/
abbrev W1 (m : (ℓ : Loc nD τ sig) → Buf (Elt F) ℓ) (c : Dev nD) : Valuation τ sig (Elt F) := V1 m c

variable (m : (ℓ : Loc nD τ sig) → Buf (Elt F) ℓ)

/-- What region 0 leaves in the array of its output window 2. -/
def out0_2 (c : Dev nD) : Buf (Elt F) ((c : Thread nD τ).loc main_v1_0) := (dat0 (W1 m) c).arrAt 2 cfg0.N
/-- What region 0 leaves in the array of its output window 3. -/
def out0_3 (c : Dev nD) : Buf (Elt F) ((c : Thread nD τ).loc main_v1_1) := (dat0 (W1 m) c).arrAt 3 cfg0.N
/-- What region 0 leaves in the array of its output window 4. -/
def out0_4 (c : Dev nD) : Buf (Elt F) ((c : Thread nD τ).loc main_v1_2) := (dat0 (W1 m) c).arrAt 4 cfg0.N
/-- What region 0 leaves in the array of its output window 5. -/
def out0_5 (c : Dev nD) : Buf (Elt F) ((c : Thread nD τ).loc main_v1_3) := (dat0 (W1 m) c).arrAt 5 cfg0.N

/-- The contents after region 0. -/
def W2 (c : Dev nD) : Valuation τ sig (Elt F) :=
  Function.update (Function.update (Function.update (Function.update (W1 m c) main_v1_0 (out0_2 m c)) main_v1_1 (out0_3 m c)) main_v1_2 (out0_4 m c)) main_v1_3 (out0_5 m c)

/-- Contents that region 1 may leave in its arrays. -/
abbrev Left (c : Dev nD) : Type :=
  {A : (w : Fin cfg1.W) → Buf (Elt F) ((cfg1.win w).arr.view.loc (c.tc : Thread nD τ)) // ∀ w, (rdat1 (W2 m) c).ArrAt w cfg1.N (A w)}

/-- The array of an output window of region 1, at such contents. -/
def out1_6 (c : Dev nD) (g : Left m c) : Buf (Elt F) ((c : Thread nD τ).loc main_v2_0) := g.1 6
/-- The codes of `dy` the second region leaves. -/
def out1_7 (c : Dev nD) (g : Left m c) : Buf (Elt F) ((c : Thread nD τ).loc main_v2_1) := g.1 7
/-- The codes of `w` the second region leaves. -/
def out1_8 (c : Dev nD) (g : Left m c) : Buf (Elt F) ((c : Thread nD τ).loc main_v2_2) := g.1 8

/-- The contents after region 1. -/
def W3 (c : Dev nD) (g : Left m c) : Valuation τ sig (Elt F) :=
  Function.update (Function.update (Function.update (W2 m c) main_v2_0 (out1_6 m c g)) main_v2_1 (out1_7 m c g)) main_v2_2 (out1_8 m c g)

/-- The contents at the end. -/
abbrev W4 (c : Dev nD) (g : Left m c) : Valuation τ sig (Elt F) := StableHlo.after hostOps2 (W3 m c g)

/-- The first region changes only its four results. -/
theorem W2_of (c : Dev nD) (r : Ref sig .tc) (h : r ∉ ([main_v1_0, main_v1_1, main_v1_2, main_v1_3] : List (Ref sig .tc))) : W2 m c r = W1 m c r := by
  simp only [List.mem_cons, List.not_mem_nil, or_false, not_or] at h
  unfold W2
  rw [Function.update_of_ne (StableHlo.devRef_ne_of_ne h.2.2.2), Function.update_of_ne (StableHlo.devRef_ne_of_ne h.2.2.1),
    Function.update_of_ne (StableHlo.devRef_ne_of_ne h.2.1), Function.update_of_ne (StableHlo.devRef_ne_of_ne h.1)]
/-- The second region changes only its three results. -/
theorem W3_of (c : Dev nD) (g : Left m c) (r : Ref sig .tc) (h : r ∉ ([main_v2_0, main_v2_1, main_v2_2] : List (Ref sig .tc))) : W3 m c g r = W2 m c r := by
  simp only [List.mem_cons, List.not_mem_nil, or_false, not_or] at h
  unfold W3
  rw [Function.update_of_ne (StableHlo.devRef_ne_of_ne h.2.2), Function.update_of_ne (StableHlo.devRef_ne_of_ne h.2.1),
    Function.update_of_ne (StableHlo.devRef_ne_of_ne h.1)]
/-- The closing host operations change only what they write. -/
theorem W4_of (c : Dev nD) (g : Left m c) (r : Ref sig .tc) (h : r ∉ hostOps2_W) : W4 m c g r = W3 m c g r :=
  StableHlo.after_of_writes_sub hostOps2 _ hostOps2_writes h

/-- Result 3 of the first region, after it. -/
theorem W2_v1_3 (c : Dev nD) : W2 m c main_v1_3 = out0_5 m c := by unfold W2; exact Function.update_self ..
/-- Result 2 of the first region, after it. -/
theorem W2_v1_2 (c : Dev nD) : W2 m c main_v1_2 = out0_4 m c := by
  unfold W2; rw [Function.update_of_ne (StableHlo.devRef_ne_of_ne (by decide))]; exact Function.update_self ..
/-- Result 1 of the first region, after it. -/
theorem W2_v1_1 (c : Dev nD) : W2 m c main_v1_1 = out0_3 m c := by
  unfold W2; rw [Function.update_of_ne (StableHlo.devRef_ne_of_ne (by decide)), Function.update_of_ne (StableHlo.devRef_ne_of_ne (by decide))]
  exact Function.update_self ..
/-- Result 0 of the first region, after it. -/
theorem W2_v1_0 (c : Dev nD) : W2 m c main_v1_0 = out0_2 m c := by
  unfold W2
  rw [Function.update_of_ne (StableHlo.devRef_ne_of_ne (by decide)), Function.update_of_ne (StableHlo.devRef_ne_of_ne (by decide)),
    Function.update_of_ne (StableHlo.devRef_ne_of_ne (by decide))]
  exact Function.update_self ..
/-- Result 2 of the second region, after it. -/
theorem W3_v2_2 (c : Dev nD) (g : Left m c) : W3 m c g main_v2_2 = out1_8 m c g := by unfold W3; exact Function.update_self ..
/-- Result 1 of the second region, after it. -/
theorem W3_v2_1 (c : Dev nD) (g : Left m c) : W3 m c g main_v2_1 = out1_7 m c g := by
  unfold W3; rw [Function.update_of_ne (StableHlo.devRef_ne_of_ne (by decide))]; exact Function.update_self ..
/-- Result 0 of the second region, after it. -/
theorem W3_v2_0 (c : Dev nD) (g : Left m c) : W3 m c g main_v2_0 = out1_6 m c g := by
  unfold W3; rw [Function.update_of_ne (StableHlo.devRef_ne_of_ne (by decide)), Function.update_of_ne (StableHlo.devRef_ne_of_ne (by decide))]
  exact Function.update_self ..

/-- An argument reaches the end as launched. -/
theorem W4_main_arg0 (c : Dev nD) (g : Left m c) : W4 m c g main_arg0 = m ((c : Thread nD τ).loc main_arg0) :=
  (W4_of m c g main_arg0 (by decide)).trans <| (W3_of m c g main_arg0 (by decide)).trans <| (W2_of m c main_arg0 (by decide)).trans <| (V1_of m c main_arg0 (by decide)).trans rfl
/-- An argument reaches the end as launched. -/
theorem W4_main_arg1 (c : Dev nD) (g : Left m c) : W4 m c g main_arg1 = m ((c : Thread nD τ).loc main_arg1) :=
  (W4_of m c g main_arg1 (by decide)).trans <| (W3_of m c g main_arg1 (by decide)).trans <| (W2_of m c main_arg1 (by decide)).trans <| (V1_of m c main_arg1 (by decide)).trans rfl

/-! ## The regions as segments -/

/-- Both regions' exact data, the second's on its exact windows. -/
def pdats : (p : Fin 2) → (c : Dev nD) → Dat τ (Elt F) Unit ℕ (UR sig nD τ) ℕ (cfgs p) c := fun p c => match p with
  | ⟨0, _⟩ => dat0 (W1 m) c
  | ⟨1, _⟩ => dat1 (W2 m) c

/-- Both regions' data read relationally. -/
def rdats : (p : Fin 2) → (c : Dev nD) → RDat τ (Elt F) Unit ℕ (UR sig nD τ) ℕ (cfgs p) c := fun p c => match p with
  | ⟨0, _⟩ => (dat0 (W1 m) c).toR
  | ⟨1, _⟩ => rdat1 (W2 m) c

/-- No core owes anything at launch: no level is assigned. -/
abbrev L₀ : GSem nD τ sig → Finset Unit := fun _ => ∅
/-- Every level is zero. -/
abbrev lv₀ : GSem nD τ sig → Unit → ℕ := fun _ _ => 0

/-- What rides along between the segments: the generator register and the core's `owes`, at nothing owed. -/
abbrev Rst (c : Dev nD) : sProp 𝕄 := iprop((∃ r, prngReg c r) ∗ ∃ Wd, owes (c : Thread nD τ) (0 : CellTallies nD τ sig Unit) Wd)

section RelSeg

variable {p : Fin 2}

set_option backward.isDefEq.respectTransparency.types false in
/-- A region of relational data as a segment: entered at the contents `W`, left at `mk` of contents that its arrays may hold then. -/
def relSeg (kit : Pipeline.PLaunchFacts (nD := nD) (τ := τ) (pcfgs (F := F)) p) (hK : (pcfgs (F := F) p).pre.K = 0)
    (hbody : ∀ c, (rdats m p c).BodyObligation defs₀ Variants.none () Set.univ)
    (howed : ∀ c t, (rdats m p c).owed t = 0) (hrec : ∀ c t, (rdats m p c).recorded t = Set.univ)
    (harr : ∀ c (G : (w : Fin (cfgs p).W) → Buf (Elt F) (((cfgs p).win w).arr.view.loc (c.tc : Thread nD τ))) (Wc : Valuation τ sig (Elt F)),
      (∀ w, G w = Wc (Proc.devRef .tc (Pipeline.arrRef (cfgs p).spec w))) →
      ((rdats m p c).arrays G : sProp 𝕄) = StableHlo.held (c.tc : Thread nD τ) (Pipeline.arrRefs (cfgs p).spec) Wc)
    (hun : ∀ w, (Pipeline.arrRef (cfgs p).spec w).isScoped = false)
    (hin : ∀ c, Pipeline.ΦA (cfgs p).spec c ⊢ (rdats m p c).Φ 0)
    (hout : ∀ c, (rdats m p c).Φ (Fin.last (cfgs p).N) ⊢ Pipeline.ΦA (cfgs p).spec c)
    (W : Dev nD → Valuation τ sig (Elt F))
    (mk : (c : Dev nD) → {A : (w : Fin (cfgs p).W) → Buf (Elt F) (((cfgs p).win w).arr.view.loc (c.tc : Thread nD τ)) // ∀ w, (rdats m p c).ArrAt w (cfgs p).N (A w)} → Valuation τ sig (Elt F))
    (hW : ∀ c w, (rdats m p c).A w = W c (Proc.devRef .tc (Pipeline.arrRef (cfgs p).spec w)))
    (hmkA : ∀ c g w, g.1 w = mk c g (Proc.devRef .tc (Pipeline.arrRef (cfgs p).spec w)))
    (hmkO : ∀ c g, ∀ d ∈ Pipeline.ucRefs τ sig \ Pipeline.arrRefs (cfgs p).spec, W c d = mk c g d) :
    RDat.RegionSeg (pcfgs (F := F)) adm (rdats m) () defs₀ Variants.none L₀ lv₀ p where
  win := kit.win.to₀
  block_pos := kit.block_pos
  stage_whole := kit.stage_whole
  K := PEmpty
  osem k := k.elim
  ho := Pipeline.OwnSemFacts.none _
  hbody := hbody
  hwaits := RDat.hwaits_of_owed_zero _ _ _ _ L₀ lv₀ p howed
  pre c := iprop(StableHlo.held (c.tc : Thread nD τ) (Pipeline.ucRefs τ sig) (W c) ∗ Rst c)
  post c := iprop((∃ g, StableHlo.held (c.tc : Thread nD τ) (Pipeline.ucRefs τ sig) (mk c g)) ∗ Rst c)
  X c := iprop(∃ r, prngReg c r)
  Y c := iprop(∃ r, prngReg c r)
  Z c := StableHlo.held (c.tc : Thread nD τ) (Pipeline.ucRefs τ sig \ Pipeline.arrRefs (cfgs p).spec) (W c)
  hentry c := by
    rw [Pipeline.ownSems0_none, Pipeline.prefHeld_of_none _ hK, harr c (rdats m p c).A (W c) (hW c),
      StableHlo.held_sub_split (c.tc : Thread nD τ) (Pipeline.arrRefs_sub_ucRefs (cfgs p).spec hun) (W c)]
    iintro ⟨⟨⟨Ha, Hz⟩, Hp, HO⟩, -, -⟩
    imodintro
    isplitl [Ha]; · iexact Ha
    isplitr; · iempintro
    isplitl [HO]
    · unfold RDat.owesAt Pipeline.owesWithin RDat.bound
      rw [howed, hrec]
      icases HO with ⟨%Wd, HO⟩; iexists Wd
      isplitr; · ipureintro; exact fun _ _ => Or.inl trivial
      iexact HO
    isplitl [Hp]; · iexact Hp
    iexact Hz
  hin c := by
    rw [Pipeline.prefHeld_of_none _ hK]
    refine BIBase.Entails.trans ?_ (hin c)
    unfold Pipeline.ΦA
    iintro ⟨Hp, -, Hs⟩
    isplitl [Hs]; · iexact Hs
    iexact Hp
  hout c := by
    rw [Pipeline.ownSems0_none]
    refine (hout c).trans ?_
    unfold Pipeline.ΦA
    iintro ⟨Hs, Hp⟩
    isplitl [Hp]; · iexact Hp
    isplitr; · iempintro
    iexact Hs
  hexit c := by
    have harrs : ((rdats m p c).arraysAt (cfgs p).N : sProp 𝕄)
        ⊢ iprop(∃ A : (w : Fin (cfgs p).W) → Buf (Elt F) (((cfgs p).win w).arr.view.loc (c.tc : Thread nD τ)),
          ⌜∀ w, (rdats m p c).ArrAt w (cfgs p).N (A w)⌝ ∗ (rdats m p c).arrays A) := by
      unfold RDat.arraysAt RDat.arrays
      refine (BI.bigSep_exists_pi Finset.univ _).trans ?_
      iintro ⟨%A, H⟩
      ihave H' := (BI.bigSep_pure_sep Finset.univ (fun w => (rdats m p c).ArrAt w (cfgs p).N (A w)) _) $$ H
      icases H' with ⟨%hA, H⟩
      iexists A
      isplitr
      · ipureintro; exact fun w => hA w (Finset.mem_univ w)
      iexact H
    have hout : iprop((∃ A : (w : Fin (cfgs p).W) → Buf (Elt F) (((cfgs p).win w).arr.view.loc (c.tc : Thread nD τ)),
          ⌜∀ w, (rdats m p c).ArrAt w (cfgs p).N (A w)⌝ ∗ (rdats m p c).arrays A)
          ∗ StableHlo.held (c.tc : Thread nD τ) (Pipeline.ucRefs τ sig \ Pipeline.arrRefs (cfgs p).spec) (W c))
        ⊢ (iprop(∃ g, StableHlo.held (c.tc : Thread nD τ) (Pipeline.ucRefs τ sig) (mk c g)) : sProp 𝕄) := by
      iintro ⟨⟨%A, %hA, Ha⟩, Hz⟩
      iexists ⟨A, hA⟩
      rw [StableHlo.held_sub_split (c.tc : Thread nD τ) (Pipeline.arrRefs_sub_ucRefs (cfgs p).spec hun) (mk c ⟨A, hA⟩),
        ← harr c A (mk c ⟨A, hA⟩) (hmkA c ⟨A, hA⟩), ← StableHlo.held_congr (c.tc : Thread nD τ) (hmkO c ⟨A, hA⟩)]
      isplitl [Ha]; · iexact Ha
      iexact Hz
    iintro ⟨Ha, HO, Hp, Hz⟩
    imodintro
    isplitl [Ha Hz]
    · iapply hout
      isplitl [Ha]; · iapply harrs; iexact Ha
      iexact Hz
    isplitl [Hp]; · iexact Hp
    unfold RDat.owesAt Pipeline.owesWithin
    rw [howed]
    icases HO with ⟨%Wd, -, HO⟩; iexists Wd; iexact HO

end RelSeg

/-- Region 0's arrays are its references held. -/
theorem harr0 (c : Dev nD) (G : (w : Fin cfg0.W) → Buf (Elt F) ((cfg0.win w).arr.view.loc (c.tc : Thread nD τ))) (Wc : Valuation τ sig (Elt F))
    (h : ∀ w, G w = Wc (Proc.devRef .tc (Pipeline.arrRef cfg0.spec w))) :
    ((rdats m 0 c).arrays G : sProp 𝕄) = StableHlo.held (c.tc : Thread nD τ) (Pipeline.arrRefs cfg0.spec) Wc :=
  Pipeline.arrays_held (p := (0 : Fin 2)) (pcfgs (F := F)) adm (pdats m) launch0.toP c (fun w => (dat0 (W1 m) c).share_full (fun _ => rfl) w) G Wc h
/-- Region 1's arrays are its references held. -/
theorem harr1 (c : Dev nD) (G : (w : Fin cfg1.W) → Buf (Elt F) ((cfg1.win w).arr.view.loc (c.tc : Thread nD τ))) (Wc : Valuation τ sig (Elt F))
    (h : ∀ w, G w = Wc (Proc.devRef .tc (Pipeline.arrRef cfg1.spec w))) :
    ((rdats m 1 c).arrays G : sProp 𝕄) = StableHlo.held (c.tc : Thread nD τ) (Pipeline.arrRefs cfg1.spec) Wc :=
  Pipeline.arrays_held (p := (1 : Fin 2)) (pcfgs (F := F)) adm (pdats m) launch1.toP c (fun w => (dat1 (W2 m) c).share_full (fun _ => rfl) w) G Wc h

/-- The contents after region 0 have each of its arrays at what the region leaves. -/
theorem mkA0 (c : Dev nD) (w : Fin cfg0.W) : (dat0 (W1 m) c).arrAt w cfg0.N = W2 m c (Proc.devRef .tc (Pipeline.arrRef spec0 w)) := by
  match w with
  | ⟨0, _⟩ => exact ((dat0 (W1 m) c).arrAt_in 0 rfl _).trans ((A0_eq (W1 m) c 0).trans (W2_of m c main_v0 (by decide)).symm)
  | ⟨1, _⟩ => exact ((dat0 (W1 m) c).arrAt_in 1 rfl _).trans ((A0_eq (W1 m) c 1).trans (W2_of m c main_arg1 (by decide)).symm)
  | ⟨2, _⟩ => exact (W2_v1_0 m c).symm
  | ⟨3, _⟩ => exact (W2_v1_1 m c).symm
  | ⟨4, _⟩ => exact (W2_v1_2 m c).symm
  | ⟨5, _⟩ => exact (W2_v1_3 m c).symm

/-- The contents after region 1 have each of its arrays at what the region leaves. -/
theorem mkA1 (c : Dev nD) (g : Left m c) (w : Fin cfg1.W) : g.1 w = W3 m c g (Proc.devRef .tc (Pipeline.arrRef spec1 w)) := by
  have hi : ∀ w : Fin cfg1.W, (cfg1.win w).isOut = false → g.1 w = W2 m c (Proc.devRef .tc (Pipeline.arrRef spec1 w)) := fun w hw =>
    ((congrFun ((rdat1 (W2 m) c).ArrAt_in w hw cfg1.N) (g.1 w)).mp (g.2 w)).trans (A1_eq (W2 m) c w)
  match w with
  | ⟨0, _⟩ => exact (hi 0 rfl).trans (W3_of m c g main_v1_0 (by decide)).symm
  | ⟨1, _⟩ => exact (hi 1 rfl).trans (W3_of m c g main_v1_1 (by decide)).symm
  | ⟨2, _⟩ => exact (hi 2 rfl).trans (W3_of m c g main_v1_2 (by decide)).symm
  | ⟨3, _⟩ => exact (hi 3 rfl).trans (W3_of m c g main_v1_3 (by decide)).symm
  | ⟨4, _⟩ => exact (hi 4 rfl).trans (W3_of m c g main_v0 (by decide)).symm
  | ⟨5, _⟩ => exact (hi 5 rfl).trans (W3_of m c g main_arg1 (by decide)).symm
  | ⟨6, _⟩ => exact (W3_v2_0 m c g).symm
  | ⟨7, _⟩ => exact (W3_v2_1 m c g).symm
  | ⟨8, _⟩ => exact (W3_v2_2 m c g).symm

/-- A buffer that is no array of region 0 keeps its contents. -/
theorem mkO0 (c : Dev nD) : ∀ d ∈ Pipeline.ucRefs τ sig \ Pipeline.arrRefs (τ := τ) spec0, W1 m c d = W2 m c d := by
  intro d hd
  obtain ⟨hu, hn⟩ := Finset.mem_sdiff.mp hd
  obtain ⟨r, -, rfl⟩ := Finset.mem_map.mp (Finset.mem_filter.mp hu).1
  refine (W2_of m c r fun hr => hn ?_).symm
  simp only [List.mem_cons, List.not_mem_nil, or_false] at hr
  rcases hr with rfl | rfl | rfl | rfl <;> decide
/-- A buffer that is no array of region 1 keeps its contents. -/
theorem mkO1 (c : Dev nD) (g : Left m c) : ∀ d ∈ Pipeline.ucRefs τ sig \ Pipeline.arrRefs (τ := τ) spec1, W2 m c d = W3 m c g d := by
  intro d hd
  obtain ⟨hu, hn⟩ := Finset.mem_sdiff.mp hd
  obtain ⟨r, -, rfl⟩ := Finset.mem_map.mp (Finset.mem_filter.mp hu).1
  refine (W3_of m c g r fun hr => hn ?_).symm
  simp only [List.mem_cons, List.not_mem_nil, or_false] at hr
  rcases hr with rfl | rfl | rfl <;> decide

set_option backward.isDefEq.respectTransparency.types false in
/-- Region 0 as a segment. -/
def reg0 : RDat.RegionSeg (pcfgs (F := F)) adm (rdats m) () defs₀ Variants.none L₀ lv₀ 0 :=
  relSeg m (p := 0) launch0.toP rfl (fun c => (body_obligation0 (W1 m) c).toR) (fun _ _ => rfl) (fun _ _ => rfl) (harr0 m)
    (by decide) (hin0 (W1 m)) (hout0 (W1 m)) (W1 m) (fun c _ => W2 m c) (A0_eq (W1 m))
    (fun c g w => ((dat0 (W1 m) c).toR_arrAt w _ _ (g.2 w)).trans (mkA0 m c w)) (fun c _ => mkO0 m c)

set_option backward.isDefEq.respectTransparency.types false in
/-- Region 1 as a segment. -/
def reg1 : RDat.RegionSeg (pcfgs (F := F)) adm (rdats m) () defs₀ Variants.none L₀ lv₀ 1 :=
  relSeg m (p := 1) launch1.toP rfl (fun c => (body_obligation1 (W2 m) c).toRRel) (fun _ _ => rfl) (fun _ _ => rfl) (harr1 m)
    (by decide) (fun _ => .rfl) (fun _ => .rfl) (W2 m) (W3 m) (A1_eq (W2 m)) (mkA1 m) (mkO1 m)

/-! ## The host stretches -/

/-- The reshape before the regions. -/
def hseg0 : HostSeg (Ix := Unit) (Name := ℕ) (U := UR sig nD τ) (Lvl := ℕ) (pcfgs (F := F)) defs₀ Variants.none L₀ lv₀ :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Rst
/-- The reshapes after them, at any contents the second region may leave. -/
def hseg2 : HostSeg (Ix := Unit) (Name := ℕ) (U := UR sig nD τ) (Lvl := ℕ) (pcfgs (F := F)) defs₀ Variants.none L₀ lv₀ :=
  HostSeg.ofOpsEx (Γ := Left m) _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) Rst

/-- @main as the list of segments. -/
abbrev rsegs (c : Dev nD) : List (RDat.Seg (pcfgs (F := F)) adm (rdats m) () defs₀ Variants.none L₀ lv₀) :=
  [.host (hseg0 m), .region (reg0 m), .region (reg1 m), .host (hseg2 m)]

/-! ## The run -/

set_option backward.isDefEq.respectTransparency.types false in
/-- Every weakly fair execution of @main from memory `m` with zero counters terminates, and at the end every counter is at zero and the
    unscoped buffers hold `W4` of some contents that the second region may leave. -/
theorem run_main (ρ : Dev nD → PrngReg) :
    θ_run defs (onTc (τ := τ) (main (F := F))) ⟨m, fun _ => 0, ρ⟩ (fun r => (∀ c : Dev nD, ∃ g : Left m c,
      ∀ b : Ref sig .tc, (Proc.devRef (τ := τ) .tc b) ∈ Pipeline.ucRefs τ sig → r.2.mem ((c.tc : Thread nD τ).loc b) = W4 m c g b)
      ∧ r.2.sem = fun _ => 0) := by
  refine RDat.θ_run_regions_kit_dev_sems (pcfgs (F := F)) adm (rdats m) () cellOf_inj (emb₁ : Emb (UR sig nD τ) 𝕄) defs₀ Variants.none L₀ lv₀ m ρ main
    (rsegs m)
    (fun c Q => by
      rewrite [main_chain c, RDat.Seg.run_eq_chain,
        show (rsegs m c).map RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [rsegs, RDat.Seg.pipes_host, RDat.Seg.pipes_region, RDat.Seg.pipes_nil]; decide) (fun _ => 0) (fun _ _ => rfl)
    (fun _ => iprop(emp)) (initOf (Pipeline.cells cfgs cellOf_inj) (Pipeline.launchToks cfgs cellOf_inj))
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => iprop(∃ g, StableHlo.held (c : Thread nD τ) (Pipeline.ucRefs τ sig) (W4 m c g)))
    (hch := fun c => ⟨.rfl, .rfl, ?_, .rfl, ?_⟩)
    (hinit := ?_) (QY := fun c s => ∃ g : Left m c,
      ∀ b : Ref sig .tc, (Proc.devRef (τ := τ) .tc b) ∈ Pipeline.ucRefs τ sig → s.mem ((c.tc : Thread nD τ).loc b) = W4 m c g b)
    (hfin := fun c s' => ?_) (hQ := fun _ h hz => ⟨h, funext fun g => hz g (.inr (regions_no_unscoped g.2))⟩)
  · show iprop((∃ _g, StableHlo.held (c.tc : Thread nD τ) (Pipeline.ucRefs τ sig) (W2 m c)) ∗ Rst c)
      ⊢ (iprop(StableHlo.held (c.tc : Thread nD τ) (Pipeline.ucRefs τ sig) (W2 m c) ∗ Rst c) : sProp 𝕄)
    iintro ⟨⟨%_g, Hh⟩, HR⟩
    isplitl [Hh]; · iexact Hh
    iexact HR
  · show iprop((∃ g, StableHlo.held (c.tc : Thread nD τ) (Pipeline.ucRefs τ sig) (W4 m c g)) ∗ Rst c)
      ⊢ (iprop((∃ g, StableHlo.held (c.tc : Thread nD τ) (Pipeline.ucRefs τ sig) (W4 m c g))
        ∗ ∃ Wd, owes (c : Thread nD τ) (0 : CellTallies nD τ sig Unit) Wd) : sProp 𝕄)
    iintro ⟨Hh, -, HO⟩
    isplitl [Hh]; · iexact Hh
    iexact HO
  · refine Pipeline.initEach L₀ lv₀ fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨⟨%g, Hh⟩, HSI⟩
    ihave Hr := (pointsTo_read_all (Pipeline.ucRefs τ sig) (fun b => ((c : Thread nD τ).1, b)) (W4 m c g) s') $$ [Hh HSI]
    · isplitl [Hh] <;> iassumption
    icases Hr with ⟨%h, HSI⟩
    imodintro
    isplitr
    · ipureintro
      exact ⟨g, fun b hb => h (Proc.devRef .tc b) hb⟩
    · iexact HSI

/-- THE FRAME: each argument ends as launched and every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => by
    obtain ⟨g, hg⟩ := h.1 c
    exact ⟨(hg main_arg0 (Finset.mem_filter.mpr ⟨StableHlo.devRef_mem_tcRefs main_arg0, by decide⟩)).trans (W4_main_arg0 m c g),
      (hg main_arg1 (Finset.mem_filter.mpr ⟨StableHlo.devRef_mem_tcRefs main_arg1, by decide⟩)).trans (W4_main_arg1 m c g)⟩, h.2⟩) (run_main m ρ)

end Cert.KernelIdeal.Hand
-- ==== Proof.Same.lean ====
/- The kernel and its idealization are the same text: no rewrite was applied. So the frame proved of
   the idealization, at any floats, is the kernel's frame at the machine's. -/
module

public import proofs.«01_k».proof.Defs
public import proofs.«01_k».proof.Proof.Gen.Kernel
public import proofs.«01_k».proof.Proof.Gen.KernelIdeal
public import proofs.«01_k».proof.Proof.Run

@[expose] public section

noncomputable section

namespace Cert.Same

open Idealize.ShloMosaic Idealize.SL.Sem

set_option backward.isDefEq.respectTransparency.types false
set_option maxHeartbeats 1000000

variable {F : FTy → Type} [FloatOps F]

/-- The first kernel function is the same program in both modules. -/
theorem body0 : Cert.Kernel.cc0_amax_scales (F := F) = Cert.KernelIdeal.cc0_amax_scales (F := F) := by exact rfl

/-- The second kernel function is the same program in both modules. -/
theorem body1 : Cert.Kernel.cc1_quant_matmul (F := F) = Cert.KernelIdeal.cc1_quant_matmul (F := F) := by exact rfl

/-- The kernel bodies, label by label. -/
theorem defs₀ : Cert.Kernel.defs₀ (F := F) = Cert.KernelIdeal.defs₀ (F := F) := by
  refine congrArg (Defs.onTc (Λ := Cert.Kernel.Λ₀)) (funext fun l => funext fun x => ?_)
  match l, x with
  | 0, (t, s) => show Cert.Kernel.cc0_amax_scales _ _ _ _ _ _ _ _ _ _ _ _ _ _ _ _ _ = _; rw [body0]; rfl
  | 1, (t, s) => show Cert.Kernel.cc1_quant_matmul _ _ _ _ _ _ _ _ _ _ _ _ _ _ _ _ _ _ _ = _; rw [body1]; rfl

/-- The bodies with the pipelines' own labels beside them. -/
theorem defs : Cert.Kernel.defs (F := F) = Cert.KernelIdeal.defs (F := F) :=
  congrArg (Pipeline.defs (Cert.KernelIdeal.pcfgs (F := F))) defs₀

/-- The host program. -/
theorem main : Cert.Kernel.main (F := F) = Cert.KernelIdeal.main (F := F) := by exact rfl

/-- The kernel's frame at the machine's floats: every run ends, both arguments as they began, every
    semaphore counter at zero. -/
theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs, main]
  exact Cert.KernelIdeal.Hand.frame (F := Bits) m g

end Cert.Same

end
-- ==== Proof.Ladder.lean ====
module
public import proofs.«01_k».proof.Proof.Body0
@[expose] public section
noncomputable section
namespace Cert.Scale
open Idealize.ShloMosaic Cert.KernelIdeal Cert.KernelIdeal.Gen Cert.KernelIdeal.Hand
variable {F : FTy → Type} [FloatOps F]

/-- A step up: where the value reaches the threshold it is multiplied by the factor. -/
def upV (a b : BitVec 32) (y : FVec F S1x1 .f32) : FVec F S1x1 .f32 :=
  select (cmpf .oge y (broadcast S1x1 (Scalar.ofBits .f32 a))) (mulf y (broadcast S1x1 (Scalar.ofBits .f32 b))) y
/-- The step up's exponent: where the value reaches the threshold, the count is added. -/
def upE (a k : BitVec 32) (y : FVec F S1x1 .f32) (e : IVec S1x1 32) : IVec S1x1 32 :=
  select (cmpf .oge y (broadcast S1x1 (Scalar.ofBits .f32 a))) (addi e (broadcast S1x1 k)) e
/-- A step down: where the value is below the threshold it is multiplied by the factor. -/
def dnV (a b : BitVec 32) (y : FVec F S1x1 .f32) : FVec F S1x1 .f32 :=
  select (cmpf .olt y (broadcast S1x1 (Scalar.ofBits .f32 a))) (mulf y (broadcast S1x1 (Scalar.ofBits .f32 b))) y
/-- The step down's exponent: where the value is below the threshold, the count is taken off. -/
def dnE (a k : BitVec 32) (y : FVec F S1x1 .f32) (e : IVec S1x1 32) : IVec S1x1 32 :=
  select (cmpf .olt y (broadcast S1x1 (Scalar.ofBits .f32 a))) (subi e (broadcast S1x1 k)) e
/-- The steps up, then `f`. -/
def ups : List (BitVec 32 × BitVec 32 × BitVec 32) → (FVec F S1x1 .f32 → IVec S1x1 32 → IVec S1x1 32) → FVec F S1x1 .f32 → IVec S1x1 32 → IVec S1x1 32
  | [], f, y, e => f y e
  | (a, b, k) :: l, f, y, e => ups l f (upV a b y) (upE a k y e)
/-- The steps down. -/
def dns : List (BitVec 32 × BitVec 32 × BitVec 32) → FVec F S1x1 .f32 → IVec S1x1 32 → IVec S1x1 32
  | [], _, e => e
  | (a, b, k) :: l, y, e => dns l (dnV a b y) (dnE a k y e)
/-- Thresholds, factors and counts of the steps up. -/
def upT : List (BitVec 32 × BitVec 32 × BitVec 32) := [(0x5F800000#32, 0x1F800000#32, 64#32), (0x4F800000#32, 0x2F800000#32, 32#32), (0x47800000#32, 0x37800000#32, 16#32),
  (0x43800000#32, 0x3B800000#32, 8#32), (0x41800000#32, 0x3D800000#32, 4#32), (0x40800000#32, 0x3E800000#32, 2#32), (0x40000000#32, 0x3F000000#32, 1#32)]
/-- Thresholds, factors and counts of the steps down. -/
def dnT : List (BitVec 32 × BitVec 32 × BitVec 32) := [(0x20000000#32, 0x5F800000#32, 64#32), (0x30000000#32, 0x4F800000#32, 32#32), (0x38000000#32, 0x47800000#32, 16#32),
  (0x3C000000#32, 0x43800000#32, 8#32), (0x3E000000#32, 0x41800000#32, 4#32), (0x3F000000#32, 0x40800000#32, 2#32), (0x3F800000#32, 0x40000000#32, 1#32)]
/-- The exponent search; zero off the positive finite values. -/
def lad (x : FVec F S1x1 .f32) : IVec S1x1 32 :=
  select (andi (cmpf .ogt x (broadcast S1x1 (Scalar.ofBits .f32 0x00000000#32))) (cmpf .olt x (broadcast S1x1 (Scalar.ofBits .f32 0x7F800000#32))))
    (ups upT (dns dnT) x (broadcast S1x1 1#32)) (broadcast S1x1 0#32)
/-- The exponent, zero where the maximum is zero. -/
def expo (a x : FVec F S1x1 .f32) : IVec S1x1 32 :=
  select (cmpf .oeq a (broadcast S1x1 (Scalar.ofBits .f32 0x00000000#32))) (broadcast S1x1 0#32) (lad x)
/-- The float whose word is the exponent `n`, nothing else. -/
def wordV (n : IVec S1x1 32) : FVec F S1x1 .f32 :=
  bitcastToFloat .f32 (shli (addi n (broadcast S1x1 127#32)) (broadcast S1x1 23#32))
/-- The product of the words of the two halves of an exponent. -/
def ldexpV (e : IVec S1x1 32) : FVec F S1x1 .f32 :=
  mulf (wordV (shrsi e (broadcast S1x1 1#32))) (wordV (subi e (shrsi e (broadcast S1x1 1#32))))
/-- The scale for a maximum `a` over a largest code whose reciprocal is the float of word `c`. -/
def expOf (c : BitVec 32) (a : FVec F S1x1 .f32) : IVec S1x1 32 := expo a (mulf a (broadcast S1x1 (Scalar.ofBits .f32 c)))

/-- The kernel's scale of `dy`. -/
theorem sdyOf_eq (v : Vec F S16x1024 .bf16) : sdyOf v = ldexpV (expOf 0x37924925#32 (k0_pay7 v)) := rfl
/-- The kernel's reciprocal scale of `dy`. -/
theorem idyOf_eq (v : Vec F S16x1024 .bf16) :
    idyOf v = ldexpV (subi (broadcast S1x1 0#32) (expOf 0x37924925#32 (k0_pay7 v))) := rfl
/-- The kernel's scale of `w`. -/
theorem swOf_eq (v : Vec F S8x1024 .f32) : swOf v = ldexpV (expOf 0x3B124925#32 (k0_pay8 v)) := rfl
/-- The kernel's reciprocal scale of `w`. -/
theorem iwOf_eq (v : Vec F S8x1024 .f32) :
    iwOf v = ldexpV (subi (broadcast S1x1 0#32) (expOf 0x3B124925#32 (k0_pay8 v))) := rfl

end Cert.Scale
end
-- ==== Proof.Powers.lean ====
/- Powers of two as extended reals, and the search for an exponent by doubling and halving. -/
module

public import Idealize.ShloMosaic.Lib.IdealHost

@[expose] public section

noncomputable section

namespace Cert.Scale

open Idealize.ShloMosaic

/-- A power of two. -/
def p2 (k : ℤ) : EReal := (((2 : ℝ) ^ k : ℝ) : EReal)

/-- Powers of two multiply by adding exponents. -/
theorem p2_mul (j k : ℤ) : p2 j * p2 k = p2 (j + k) := by
  unfold p2; rw [← EReal.coe_mul, zpow_add₀ (by norm_num)]

/-- Powers of two are ordered as their exponents. -/
theorem p2_le (j k : ℤ) : p2 j ≤ p2 k ↔ j ≤ k := by
  unfold p2; rw [EReal.coe_le_coe_iff]; exact zpow_le_zpow_iff_right₀ (by norm_num)

/-- A power of two lies at or below a multiple by a power of two as the shifted power lies below the value. -/
theorem le_mul_p2 (y : EReal) (j k : ℤ) : p2 j ≤ y * p2 k ↔ p2 (j - k) ≤ y := by
  have hk : (0 : ℝ) < (2 : ℝ) ^ k := by positivity
  induction y with
  | bot => rw [show (⊥ : EReal) * p2 k = ⊥ from EReal.bot_mul_coe_of_pos hk]; simp [p2]
  | top => rw [show (⊤ : EReal) * p2 k = ⊤ from EReal.top_mul_coe_of_pos hk]; simp [p2]
  | coe r =>
    unfold p2
    rw [← EReal.coe_mul, EReal.coe_le_coe_iff, EReal.coe_le_coe_iff, zpow_sub₀ (by norm_num), div_le_iff₀ hk]

/-- A positive word with exponent field `E` and no trailing bits denotes `2 ^ (E - 127)`. -/
theorem ofBits_fields (b : BitVec 32) (E : ℕ) (h1 : 1 ≤ E) (h2 : E ≤ 254) (hx : (b.extractLsb' 23 8).toNat = E)
    (hf : (b.extractLsb' 0 23).toNat = 0) (hs : (b.extractLsb' 31 1 == 1#1) = false) :
    Ideal.ofBits .f32 b = p2 ((E : ℤ) - 127) := by
  show Ideal.ieee 8 23 b = _
  unfold Ideal.ieee
  simp only [hx, hf, hs]
  rw [if_neg (by omega), if_neg (by omega)]
  unfold p2
  congr 1
  rw [show ((E : ℤ) - 127) = 23 + ((E : ℤ) - (2 ^ (8 - 1) - 1) - (23 : ℕ)) by norm_num, zpow_add₀ (by norm_num : (2 : ℝ) ≠ 0)]
  norm_num

/-- The same, with the power named. -/
theorem ofBits_pow (b : BitVec 32) (E : ℕ) (k : ℤ) (hk : (E : ℤ) - 127 = k) (h1 : 1 ≤ E) (h2 : E ≤ 254)
    (hx : (b.extractLsb' 23 8).toNat = E) (hf : (b.extractLsb' 0 23).toNat = 0) (hs : (b.extractLsb' 31 1 == 1#1) = false) :
    Ideal.ofBits .f32 b = p2 k := hk ▸ ofBits_fields b E h1 h2 hx hf hs

/-! ## The search: from the set of exponents reached, the largest -/

open Classical in
/-- A step up by `k`: taken where the exponent `k` further up is reached. -/
def up (L : ℤ → Prop) (k s : ℤ) : ℤ := if L (k + s) then s + k else s

open Classical in
/-- A step down by `k`: taken where the exponent `k - 1` further down is not reached. -/
def dn (L : ℤ → Prop) (k s : ℤ) : ℤ := if L (1 - k + s) then s else s - k

/-- What a step up by `k` keeps: the exponent is reached or zero, and the one `2k` further up is not or all steps were taken. -/
theorem up_inv (L : ℤ → Prop) (k s : ℤ) (hk : 0 < k) (h0 : 0 ≤ s) (h1 : s ≤ 128 - 2 * k) (h2 : L s ∨ s = 0)
    (h3 : ¬ L (s + 2 * k) ∨ s = 128 - 2 * k) :
    0 ≤ up L k s ∧ up L k s ≤ 128 - k ∧ (L (up L k s) ∨ up L k s = 0) ∧ (¬ L (up L k s + k) ∨ up L k s = 128 - k) := by
  unfold up
  split_ifs with h
  · refine ⟨by omega, by omega, .inl (by rwa [add_comm] at h), ?_⟩
    rcases h3 with h3 | h3
    · left; rwa [show s + k + k = s + 2 * k by ring]
    · right; omega
  · exact ⟨h0, by omega, h2, .inl (by rwa [add_comm] at h)⟩

/-- A step down is not taken from an exponent that is reached. -/
theorem dn_stay (L : ℤ → Prop) (anti : ∀ j k, j ≤ k → L k → L j) (k s : ℤ) (hk : 0 < k) (h : L s) : dn L k s = s :=
  if_pos (anti _ _ (by omega) h)

/-- What a step down by `k` keeps: the next exponent is not reached, and the one `k` further down is or all steps were taken. -/
theorem dn_inv (L : ℤ → Prop) (k s : ℤ) (hk : 0 < k) (h0 : s ≤ 0) (h1 : 2 * k - 128 ≤ s) (h2 : ¬ L (s + 1))
    (h3 : L (s + 1 - 2 * k) ∨ s = 2 * k - 128) :
    dn L k s ≤ 0 ∧ k - 128 ≤ dn L k s ∧ ¬ L (dn L k s + 1) ∧ (L (dn L k s + 1 - k) ∨ dn L k s = k - 128) := by
  unfold dn
  split_ifs with h
  · exact ⟨h0, by omega, h2, .inl (by rwa [show s + 1 - k = 1 - k + s by ring])⟩
  · refine ⟨by omega, by omega, by rwa [show s - k + 1 = 1 - k + s by ring], ?_⟩
    rcases h3 with h3 | h3
    · left; rwa [show s - k + 1 - k = s + 1 - 2 * k by ring]
    · right; omega

/-- All the steps up from zero. -/
def upAll (L : ℤ → Prop) : ℤ := up L 1 (up L 2 (up L 4 (up L 8 (up L 16 (up L 32 (up L 64 0))))))
/-- All the steps down. -/
def dnAll (L : ℤ → Prop) (s : ℤ) : ℤ := dn L 1 (dn L 2 (dn L 4 (dn L 8 (dn L 16 (dn L 32 (dn L 64 s))))))

/-- The search ends at the largest exponent reached, within its range. -/
theorem search_spec (L : ℤ → Prop) (anti : ∀ j k, j ≤ k → L k → L j) :
    -127 ≤ dnAll L (upAll L) ∧ dnAll L (upAll L) ≤ 127 ∧
      ∀ j, -126 ≤ j → j ≤ 127 → (L j ↔ j ≤ dnAll L (upAll L)) := by
  obtain ⟨a0, a1, a2, a3⟩ := up_inv L 64 0 (by omega) (by omega) (by omega) (.inr rfl) (.inr rfl)
  obtain ⟨a0, a1, a2, a3⟩ := up_inv L 32 _ (by omega) a0 a1 a2 a3
  obtain ⟨a0, a1, a2, a3⟩ := up_inv L 16 _ (by omega) a0 a1 a2 a3
  obtain ⟨a0, a1, a2, a3⟩ := up_inv L 8 _ (by omega) a0 a1 a2 a3
  obtain ⟨a0, a1, a2, a3⟩ := up_inv L 4 _ (by omega) a0 a1 a2 a3
  obtain ⟨a0, a1, a2, a3⟩ := up_inv L 2 _ (by omega) a0 a1 a2 a3
  obtain ⟨a0, a1, a2, a3⟩ := up_inv L 1 _ (by omega) a0 a1 a2 a3
  change 0 ≤ upAll L at a0
  change upAll L ≤ 128 - 1 at a1
  change L (upAll L) ∨ upAll L = 0 at a2
  change ¬ L (upAll L + 1) ∨ upAll L = 128 - 1 at a3
  by_cases hs : L (upAll L)
  · have e : dnAll L (upAll L) = upAll L := by
      unfold dnAll
      rw [dn_stay L anti 64 _ (by omega) hs, dn_stay L anti 32 _ (by omega) hs, dn_stay L anti 16 _ (by omega) hs,
        dn_stay L anti 8 _ (by omega) hs, dn_stay L anti 4 _ (by omega) hs, dn_stay L anti 2 _ (by omega) hs,
        dn_stay L anti 1 _ (by omega) hs]
    rw [e]
    refine ⟨by omega, by omega, fun j _ hj => ⟨fun h => ?_, fun h => anti _ _ h hs⟩⟩
    by_contra hc
    rcases a3 with a3 | a3
    · exact a3 (anti _ _ (by omega) h)
    · omega
  · have hz : upAll L = 0 := a2.resolve_left hs
    rw [hz] at hs ⊢
    obtain ⟨b0, b1, b2, b3⟩ := dn_inv L 64 0 (by omega) (by omega) (by omega) (fun h => hs (anti _ _ (by omega) h)) (.inr rfl)
    obtain ⟨b0, b1, b2, b3⟩ := dn_inv L 32 _ (by omega) b0 b1 b2 b3
    obtain ⟨b0, b1, b2, b3⟩ := dn_inv L 16 _ (by omega) b0 b1 b2 b3
    obtain ⟨b0, b1, b2, b3⟩ := dn_inv L 8 _ (by omega) b0 b1 b2 b3
    obtain ⟨b0, b1, b2, b3⟩ := dn_inv L 4 _ (by omega) b0 b1 b2 b3
    obtain ⟨b0, b1, b2, b3⟩ := dn_inv L 2 _ (by omega) b0 b1 b2 b3
    obtain ⟨b0, b1, b2, b3⟩ := dn_inv L 1 _ (by omega) b0 b1 b2 b3
    change dnAll L 0 ≤ 0 at b0
    change 1 - 128 ≤ dnAll L 0 at b1
    change ¬ L (dnAll L 0 + 1) at b2
    change L (dnAll L 0 + 1 - 1) ∨ dnAll L 0 = 1 - 128 at b3
    refine ⟨by omega, by omega, fun j hj _ => ⟨fun h => ?_, fun h => ?_⟩⟩
    · by_contra hc; exact b2 (anti _ _ (by omega) h)
    · rcases b3 with b3 | b3
      · exact anti _ _ (by omega) b3
      · omega

/-! ## The exponents reached, counted -/

/-- A sum of ones over the indices below `m`. -/
theorem sum_below (N m : ℕ) (h : m ≤ N) : ∑ n ∈ Finset.range N, (if n < m then (1 : EReal) else 0) = ((m : ℝ) : EReal) := by
  induction N generalizing m with
  | zero => obtain rfl : m = 0 := by omega
            simp
  | succ N ih =>
    rw [Finset.sum_range_succ]
    rcases Nat.lt_or_ge N m with hm | hm
    · obtain rfl : m = N + 1 := by omega
      rw [if_pos (by omega), Finset.sum_congr rfl (g := fun n => if n < N then (1 : EReal) else 0), ih N le_rfl]
      · push_cast; rfl
      · intro n hn
        have := Finset.mem_range.1 hn
        rw [if_pos (by omega), if_pos this]
    · rw [if_neg (by omega), add_zero, ih m hm]

/-- Two to an integer, by the real power. -/
theorem exp2_int (k : ℤ) : Ideal.exp2 (((k : ℝ) : EReal)) = p2 k := by
  show ((Real.rpow 2 (k : ℝ) : ℝ) : EReal) = _
  unfold p2
  congr 1
  exact Real.rpow_intCast 2 k

end Cert.Scale
end
-- ==== Proof.Scales.lean ====
/- The kernel's exponent search and word products at exact arithmetic: the scale is two to the number
   of powers of two reached. -/
module

public import proofs.«01_k».proof.Proof.Ladder
public import proofs.«01_k».proof.Proof.Powers

@[expose] public section

noncomputable section

namespace Cert.Scale

open Idealize.ShloMosaic Cert.KernelIdeal

/-- The search is at value `y`, word `e`, exponent `s`: `y` is the sought value shifted by `s`. -/
def At (L : ℤ → Prop) (y : EReal) (e : BitVec 32) (s : ℤ) : Prop := (∀ j, p2 j ≤ y ↔ L (j + s)) ∧ e = BitVec.ofInt 32 (s + 1)

/-- The word of a difference. -/
theorem ofInt_sub (a b : ℤ) : (BitVec.ofInt 32 a - BitVec.ofInt 32 b) = BitVec.ofInt 32 (a - b) := by
  rw [BitVec.sub_eq_add_neg, ← BitVec.ofInt_neg, ← BitVec.ofInt_add, ← sub_eq_add_neg]

open Classical in
/-- A step up of the kernel is a step up of the search. -/
theorem at_up (L : ℤ → Prop) (a b w : BitVec 32) (k s : ℤ) (y : FVec Ideal S1x1 .f32) (e : IVec S1x1 32) (i : S1x1.Idx)
    (ha : Ideal.ofBits .f32 a = p2 k) (hb : Ideal.ofBits .f32 b = p2 (-k)) (hw : w = BitVec.ofInt 32 k)
    (h : At L (y i) (e i) s) : At L (upV a b y i) (upE a w y e i) (up L k s) := by
  have hc : Ideal.cmp .oge (y i) (Ideal.ofBits .f32 a) = BitVec.ofBool (decide (L (k + s))) := by
    rw [ha]; exact congrArg BitVec.ofBool (decide_eq_decide.2 (h.1 k))
  show At L (Scalar.select (Ideal.cmp .oge (y i) (Ideal.ofBits .f32 a)) (y i * Ideal.ofBits .f32 b) (y i))
    (Scalar.select (Ideal.cmp .oge (y i) (Ideal.ofBits .f32 a)) (e i + w) (e i)) _
  rw [hc]
  by_cases hL : L (k + s)
  · rw [decide_eq_true hL]
    refine ⟨fun j => ?_, ?_⟩
    · show p2 j ≤ y i * Ideal.ofBits .f32 b ↔ _
      rw [hb, le_mul_p2, h.1, up, if_pos hL, show j - -k + s = j + (s + k) by ring]
    · show e i + w = _
      rw [h.2, hw, ← BitVec.ofInt_add, up, if_pos hL, show s + 1 + k = s + k + 1 by ring]
  · rw [decide_eq_false hL, up, if_neg hL]; exact h

open Classical in
/-- A step down of the kernel is a step down of the search. -/
theorem at_dn (L : ℤ → Prop) (a b w : BitVec 32) (k s : ℤ) (y : FVec Ideal S1x1 .f32) (e : IVec S1x1 32) (i : S1x1.Idx)
    (ha : Ideal.ofBits .f32 a = p2 (1 - k)) (hb : Ideal.ofBits .f32 b = p2 k) (hw : w = BitVec.ofInt 32 k)
    (h : At L (y i) (e i) s) : At L (dnV a b y i) (dnE a w y e i) (dn L k s) := by
  have hc : Ideal.cmp .olt (y i) (Ideal.ofBits .f32 a) = BitVec.ofBool (decide (¬ L (1 - k + s))) := by
    rw [ha]; exact congrArg BitVec.ofBool (decide_eq_decide.2 (not_le.symm.trans (not_congr (h.1 (1 - k)))))
  show At L (Scalar.select (Ideal.cmp .olt (y i) (Ideal.ofBits .f32 a)) (y i * Ideal.ofBits .f32 b) (y i))
    (Scalar.select (Ideal.cmp .olt (y i) (Ideal.ofBits .f32 a)) (e i - w) (e i)) _
  rw [hc]
  by_cases hL : L (1 - k + s)
  · rw [decide_eq_false (not_not.2 hL), dn, if_pos hL]; exact h
  · rw [decide_eq_true hL]
    refine ⟨fun j => ?_, ?_⟩
    · show p2 j ≤ y i * Ideal.ofBits .f32 b ↔ _
      rw [hb, le_mul_p2, h.1, dn, if_neg hL, show j - k + s = j + (s - k) by ring]
    · show e i - w = _
      rw [h.2, hw, ofInt_sub, dn, if_neg hL, show s + 1 - k = s - k + 1 by ring]

/-- All the kernel's steps are all the search's steps. -/
theorem ups_apply (x : FVec Ideal S1x1 .f32) (i : S1x1.Idx) :
    ups upT (dns dnT) x (broadcast S1x1 1#32) i
      = BitVec.ofInt 32 (dnAll (fun j => p2 j ≤ x i) (upAll fun j => p2 j ≤ x i) + 1) := by
  have h : At (fun j => p2 j ≤ x i) (x i) ((broadcast S1x1 1#32 : IVec S1x1 32) i) 0 := ⟨fun j => by rw [add_zero], rfl⟩
  have h := at_up _ 0x5F800000#32 0x1F800000#32 64#32 64 _ _ _ i (ofBits_pow _ 191 _ (by norm_num) (by omega) (by omega) (by decide) (by decide) (by decide)) (ofBits_pow _ 63 _ (by norm_num) (by omega) (by omega) (by decide) (by decide) (by decide)) (by decide) h
  have h := at_up _ 0x4F800000#32 0x2F800000#32 32#32 32 _ _ _ i (ofBits_pow _ 159 _ (by norm_num) (by omega) (by omega) (by decide) (by decide) (by decide)) (ofBits_pow _ 95 _ (by norm_num) (by omega) (by omega) (by decide) (by decide) (by decide)) (by decide) h
  have h := at_up _ 0x47800000#32 0x37800000#32 16#32 16 _ _ _ i (ofBits_pow _ 143 _ (by norm_num) (by omega) (by omega) (by decide) (by decide) (by decide)) (ofBits_pow _ 111 _ (by norm_num) (by omega) (by omega) (by decide) (by decide) (by decide)) (by decide) h
  have h := at_up _ 0x43800000#32 0x3B800000#32 8#32 8 _ _ _ i (ofBits_pow _ 135 _ (by norm_num) (by omega) (by omega) (by decide) (by decide) (by decide)) (ofBits_pow _ 119 _ (by norm_num) (by omega) (by omega) (by decide) (by decide) (by decide)) (by decide) h
  have h := at_up _ 0x41800000#32 0x3D800000#32 4#32 4 _ _ _ i (ofBits_pow _ 131 _ (by norm_num) (by omega) (by omega) (by decide) (by decide) (by decide)) (ofBits_pow _ 123 _ (by norm_num) (by omega) (by omega) (by decide) (by decide) (by decide)) (by decide) h
  have h := at_up _ 0x40800000#32 0x3E800000#32 2#32 2 _ _ _ i (ofBits_pow _ 129 _ (by norm_num) (by omega) (by omega) (by decide) (by decide) (by decide)) (ofBits_pow _ 125 _ (by norm_num) (by omega) (by omega) (by decide) (by decide) (by decide)) (by decide) h
  have h := at_up _ 0x40000000#32 0x3F000000#32 1#32 1 _ _ _ i (ofBits_pow _ 128 _ (by norm_num) (by omega) (by omega) (by decide) (by decide) (by decide)) (ofBits_pow _ 126 _ (by norm_num) (by omega) (by omega) (by decide) (by decide) (by decide)) (by decide) h
  have h := at_dn _ 0x20000000#32 0x5F800000#32 64#32 64 _ _ _ i (ofBits_pow _ 64 _ (by norm_num) (by omega) (by omega) (by decide) (by decide) (by decide)) (ofBits_pow _ 191 _ (by norm_num) (by omega) (by omega) (by decide) (by decide) (by decide)) (by decide) h
  have h := at_dn _ 0x30000000#32 0x4F800000#32 32#32 32 _ _ _ i (ofBits_pow _ 96 _ (by norm_num) (by omega) (by omega) (by decide) (by decide) (by decide)) (ofBits_pow _ 159 _ (by norm_num) (by omega) (by omega) (by decide) (by decide) (by decide)) (by decide) h
  have h := at_dn _ 0x38000000#32 0x47800000#32 16#32 16 _ _ _ i (ofBits_pow _ 112 _ (by norm_num) (by omega) (by omega) (by decide) (by decide) (by decide)) (ofBits_pow _ 143 _ (by norm_num) (by omega) (by omega) (by decide) (by decide) (by decide)) (by decide) h
  have h := at_dn _ 0x3C000000#32 0x43800000#32 8#32 8 _ _ _ i (ofBits_pow _ 120 _ (by norm_num) (by omega) (by omega) (by decide) (by decide) (by decide)) (ofBits_pow _ 135 _ (by norm_num) (by omega) (by omega) (by decide) (by decide) (by decide)) (by decide) h
  have h := at_dn _ 0x3E000000#32 0x41800000#32 4#32 4 _ _ _ i (ofBits_pow _ 124 _ (by norm_num) (by omega) (by omega) (by decide) (by decide) (by decide)) (ofBits_pow _ 131 _ (by norm_num) (by omega) (by omega) (by decide) (by decide) (by decide)) (by decide) h
  have h := at_dn _ 0x3F000000#32 0x40800000#32 2#32 2 _ _ _ i (ofBits_pow _ 126 _ (by norm_num) (by omega) (by omega) (by decide) (by decide) (by decide)) (ofBits_pow _ 129 _ (by norm_num) (by omega) (by omega) (by decide) (by decide) (by decide)) (by decide) h
  have h := at_dn _ 0x3F800000#32 0x40000000#32 1#32 1 _ _ _ i (ofBits_pow _ 127 _ (by norm_num) (by omega) (by omega) (by decide) (by decide) (by decide)) (ofBits_pow _ 128 _ (by norm_num) (by omega) (by omega) (by decide) (by decide) (by decide)) (by decide) h
  exact h.2

open Classical in
/-- The exponent of a value: how many powers of two from `2 ^ -126` it reaches, less 126; zero off the positive finite values. -/
def expZ (x : EReal) : ℤ := if 0 < x ∧ x < ⊤ then dnAll (fun j => p2 j ≤ x) (upAll fun j => p2 j ≤ x) + 1 else 0

/-- The exponent is in range, and at a positive finite value it counts the powers of two reached. -/
theorem expZ_spec (x : EReal) : -126 ≤ expZ x ∧ expZ x ≤ 128 ∧
    (0 < x ∧ x < ⊤ → ∀ j, -126 ≤ j → j ≤ 127 → (p2 j ≤ x ↔ j < expZ x)) := by
  obtain ⟨h0, h1, h2⟩ := search_spec (fun j => p2 j ≤ x) (fun j k h hk => ((p2_le j k).2 h).trans hk)
  unfold expZ
  split_ifs with hx
  · exact ⟨by omega, by omega, fun _ j ha hb => (h2 j ha hb).trans ⟨by omega, by omega⟩⟩
  · exact ⟨by omega, by omega, fun h => absurd h hx⟩

/-- The word of infinity. -/
theorem ofBits_inf : Ideal.ofBits .f32 0x7F800000#32 = ⊤ := by simp [Ideal.ofBits, Ideal.ieee]

open Classical in
/-- The printed test for a positive finite value: a choice by it is a choice by the value's being so. -/
theorem finite_select {α : Type} (x : EReal) (u v : α) :
    Scalar.select (IntOp.andi (Ideal.cmp .ogt x (Ideal.ofBits .f32 0x00000000#32)) (Ideal.cmp .olt x (Ideal.ofBits .f32 0x7F800000#32))) u v
      = if 0 < x ∧ x < ⊤ then u else v := by
  rw [ofBits_inf, show Ideal.ofBits .f32 0x00000000#32 = 0 by simp [Ideal.ofBits, Ideal.ieee]]
  show Scalar.select (IntOp.andi (BitVec.ofBool (decide (0 < x))) (BitVec.ofBool (decide (x < ⊤)))) u v = _
  by_cases h0 : 0 < x
  · by_cases h1 : x < ⊤
    · rw [if_pos ⟨h0, h1⟩, decide_eq_true h0, decide_eq_true h1]; rfl
    · rw [if_neg (fun h => h1 h.2), decide_eq_true h0, decide_eq_false h1]; rfl
  · rw [if_neg (fun h => h0 h.1), decide_eq_false h0]
    by_cases h1 : x < ⊤
    · rw [decide_eq_true h1]; rfl
    · rw [decide_eq_false h1]; rfl

/-- The word of the reciprocal of a format's largest code is a positive real: a product with it is zero only at zero. -/
theorem mul_eq_zero_of_pos (a : EReal) (r : ℝ) (hr : 0 < r) : a * (r : EReal) = 0 ↔ a = 0 := by
  rw [mul_eq_zero]
  exact ⟨fun h => h.resolve_right (by exact_mod_cast hr.ne'), .inl⟩

/-- The word of `1 / 57344` denotes a positive real. -/
theorem c5_pos : ∃ r : ℝ, 0 < r ∧ Ideal.ofBits .f32 0x37924925#32 = (r : EReal) := by
  refine ⟨_, ?_, by simp [Ideal.ofBits, Ideal.ieee, -EReal.coe_mul]; rfl⟩
  positivity

/-- The word of `1 / 448` denotes a positive real. -/
theorem c4_pos : ∃ r : ℝ, 0 < r ∧ Ideal.ofBits .f32 0x3B124925#32 = (r : EReal) := by
  refine ⟨_, ?_, by simp [Ideal.ofBits, Ideal.ieee, -EReal.coe_mul]; rfl⟩
  positivity

/-- The kernel's exponent word is the exponent. -/
theorem expOf_apply (c : BitVec 32) (hc : ∃ r : ℝ, 0 < r ∧ Ideal.ofBits .f32 c = (r : EReal)) (a : FVec Ideal S1x1 .f32) (i : S1x1.Idx) :
    expOf c a i = BitVec.ofInt 32 (expZ (a i * Ideal.ofBits .f32 c)) := by
  have h0 : Ideal.ofBits .f32 0x00000000#32 = 0 := by simp [Ideal.ofBits, Ideal.ieee]
  obtain ⟨r, hr, hc⟩ := hc
  show Scalar.select (Ideal.cmp .oeq (a i) (Ideal.ofBits .f32 0x00000000#32)) 0#32
    (Scalar.select (IntOp.andi (Ideal.cmp .ogt (a i * Ideal.ofBits .f32 c) (Ideal.ofBits .f32 0x00000000#32))
        (Ideal.cmp .olt (a i * Ideal.ofBits .f32 c) (Ideal.ofBits .f32 0x7F800000#32)))
      (ups upT (dns dnT) (mulf a (broadcast S1x1 (Scalar.ofBits .f32 c))) (broadcast S1x1 1#32) i) 0#32) = _
  rw [ups_apply, finite_select]
  show Scalar.select (Ideal.cmp .oeq (a i) (Ideal.ofBits .f32 0x00000000#32)) 0#32
    (if 0 < a i * Ideal.ofBits .f32 c ∧ a i * Ideal.ofBits .f32 c < ⊤ then
      BitVec.ofInt 32 (dnAll (fun j => p2 j ≤ a i * Ideal.ofBits .f32 c) (upAll fun j => p2 j ≤ a i * Ideal.ofBits .f32 c) + 1) else 0#32) = _
  rw [h0, hc]
  unfold expZ
  by_cases ha : a i = 0
  · have hz := (mul_eq_zero_of_pos _ r hr).2 ha
    rw [if_neg (fun h => h.1.ne' hz), if_neg (fun h => h.1.ne' hz)]
    unfold Ideal.cmp; rw [decide_eq_true ha]; rfl
  · unfold Ideal.cmp; rw [decide_eq_false ha]
    split_ifs <;> rfl

/-- The fields of the word of an exponent. -/
theorem word_fields : ∀ n : Fin 129,
    ((IntOp.shli .vector (IntOp.addi (BitVec.ofInt 32 ((n : ℤ) - 64)) 127#32) 23#32).extractLsb' 23 8).toNat = (n : ℕ) + 63
    ∧ ((IntOp.shli .vector (IntOp.addi (BitVec.ofInt 32 ((n : ℤ) - 64)) 127#32) 23#32).extractLsb' 0 23).toNat = 0
    ∧ ((IntOp.shli .vector (IntOp.addi (BitVec.ofInt 32 ((n : ℤ) - 64)) 127#32) 23#32).extractLsb' 31 1 == 1#1) = false := by decide

/-- The two halves of an exponent, as words. -/
theorem half_words : ∀ n : Fin 257,
    IntOp.shrsi .vector (BitVec.ofInt 32 ((n : ℤ) - 128)) 1#32 = BitVec.ofInt 32 (((n : ℤ) - 128) / 2) := by decide

/-- The word of an exponent denotes its power of two. -/
theorem word_pow (k : ℤ) (h0 : -64 ≤ k) (h1 : k ≤ 64) :
    Ideal.ofBits .f32 (IntOp.shli .vector (IntOp.addi (BitVec.ofInt 32 k) 127#32) 23#32) = p2 k := by
  obtain ⟨n, hn⟩ : ∃ n : Fin 129, (n : ℤ) - 64 = k := ⟨⟨(k + 64).toNat, by omega⟩, by simp; omega⟩
  obtain ⟨f0, f1, f2⟩ := word_fields n
  rw [hn] at f0 f1 f2
  exact ofBits_pow _ ((n : ℕ) + 63) k (by push_cast; omega) (by omega) (by omega) f0 f1 f2

/-- The product of the words of the two halves of an exponent is its power of two. -/
theorem ldexpV_apply (e : IVec S1x1 32) (i : S1x1.Idx) (k : ℤ) (h0 : -128 ≤ k) (h1 : k ≤ 128) (he : e i = BitVec.ofInt 32 k) :
    ldexpV (F := Ideal) e i = p2 k := by
  show Ideal.ofBits .f32 (IntOp.shli .vector (IntOp.addi (IntOp.shrsi .vector (e i) 1#32) 127#32) 23#32)
    * Ideal.ofBits .f32 (IntOp.shli .vector (IntOp.addi (IntOp.subi (e i) (IntOp.shrsi .vector (e i) 1#32)) 127#32) 23#32) = _
  obtain ⟨n, hn⟩ : ∃ n : Fin 257, (n : ℤ) - 128 = k := ⟨⟨(k + 128).toNat, by omega⟩, by simp; omega⟩
  have hh := half_words n
  rw [hn] at hh
  rw [he, hh, show IntOp.subi (BitVec.ofInt 32 k) (BitVec.ofInt 32 (k / 2)) = BitVec.ofInt 32 (k - k / 2) from ofInt_sub _ _,
    word_pow _ (by omega) (by omega), word_pow _ (by omega) (by omega), p2_mul]
  congr 1; omega

/-- The kernel's scale: two to the exponent. -/
theorem scale_apply (c : BitVec 32) (hc : ∃ r : ℝ, 0 < r ∧ Ideal.ofBits .f32 c = (r : EReal)) (a : FVec Ideal S1x1 .f32) (i : S1x1.Idx) :
    ldexpV (F := Ideal) (expOf c a) i = p2 (expZ (a i * Ideal.ofBits .f32 c)) := by
  obtain ⟨h0, h1, -⟩ := expZ_spec (a i * Ideal.ofBits .f32 c)
  exact ldexpV_apply _ i _ (by omega) (by omega) (expOf_apply c hc a i)

/-- The kernel's reciprocal scale: two to minus the exponent. -/
theorem inv_apply (c : BitVec 32) (hc : ∃ r : ℝ, 0 < r ∧ Ideal.ofBits .f32 c = (r : EReal)) (a : FVec Ideal S1x1 .f32) (i : S1x1.Idx) :
    ldexpV (F := Ideal) (subi (broadcast S1x1 0#32) (expOf c a)) i = p2 (-expZ (a i * Ideal.ofBits .f32 c)) := by
  obtain ⟨h0, h1, -⟩ := expZ_spec (a i * Ideal.ofBits .f32 c)
  refine ldexpV_apply _ i _ (by omega) (by omega) ?_
  show (0#32 : BitVec 32) - expOf c a i = _
  rw [expOf_apply c hc a i, show (0#32 : BitVec 32) = BitVec.ofInt 32 0 from rfl, ofInt_sub, zero_sub]

/-- The exponents reached, counted from the bottom, less 126: the exponent, where the value is positive and finite. -/
theorem count_eq (x : EReal) (hx : 0 < x ∧ x < ⊤) :
    (∑ n : Fin 254, (if p2 ((n : ℤ) - 126) ≤ x then (1 : EReal) else 0)) - ((126 : ℝ) : EReal) = (((expZ x : ℤ) : ℝ) : EReal) := by
  obtain ⟨h0, h1, h2⟩ := expZ_spec x
  have hs : (∑ n : Fin 254, (if p2 ((n : ℤ) - 126) ≤ x then (1 : EReal) else 0)) = (((expZ x + 126).toNat : ℝ) : EReal) := by
    rw [← sum_below 254 (expZ x + 126).toNat (by omega), ← Fin.sum_univ_eq_sum_range (fun n => if n < (expZ x + 126).toNat then (1 : EReal) else 0)]
    refine Finset.sum_congr rfl fun n _ => ?_
    have hn := n.isLt
    have := h2 hx ((n : ℤ) - 126) (by omega) (by omega)
    by_cases hc : (n : ℤ) - 126 < expZ x
    · rw [if_pos (this.2 hc), if_pos (by omega)]
    · rw [if_neg (fun h => hc (this.1 h)), if_neg (by omega)]
  rw [hs, ← EReal.coe_sub]
  congr 1
  have : (((expZ x + 126).toNat : ℤ) : ℝ) = ((expZ x + 126 : ℤ) : ℝ) := by rw [Int.toNat_of_nonneg (by omega)]
  push_cast at this
  rw [this]; ring

end Cert.Scale
end
-- ==== Proof.Maxima.lean ====
/- The largest magnitude of an array, found whole by the reference and block by block by the kernel,
   and the scales both take from it, at exact arithmetic. -/
module

public import proofs.«01_k».proof.Proof.Scales
public import proofs.«01_k».proof.Proof.Gen.ReferenceIdeal.Skeleton
public import Idealize.ShloMosaic.Lib.Pipeline.Value

@[expose] public section

noncomputable section

namespace Cert.Scale

open Idealize.ShloMosaic

/-- The magnitude of a value. -/
abbrev mag (x : EReal) : EReal := max x (-x)

/-- A magnitude is never negative. -/
theorem mag_nonneg (x : EReal) : 0 ≤ mag x := by
  rcases le_total 0 x with h | h
  · exact le_max_of_le_left h
  · exact le_max_of_le_right (EReal.neg_nonneg.2 h)

/-- The largest magnitude of an array. -/
def amax {s : Shape} (x : s.Idx → EReal) : EReal := Finset.univ.sup fun p => mag (x p)

/-- What bounds the largest magnitude. -/
theorem amax_le {s : Shape} (x : s.Idx → EReal) (b : EReal) : amax x ≤ b ↔ ∀ p, mag (x p) ≤ b := by
  simp [amax, Finset.sup_le_iff]

/-- What bounds a maximum over axes. -/
theorem reduceMax_le {s t : Shape} {axes : List (Fin s.rank)} {φ : FTy} (src : FVec Ideal s φ) (acc : BitVec φ.bits)
    (h : s.Reduces axes t) (hφ : FKind.Formats φ) (hacc : acc = FKind.maximumf.neutral φ hφ) (hbot : Ideal.ofBits φ acc = ⊥)
    (j : t.Idx) (b : EReal) :
    multiReduction .maximumf axes t src acc h hφ hacc j ≤ b ↔ ∀ i, h.drop i = j → src i ≤ b := by
  rw [multiReduction_maximumf_eq_fold]
  refine (Finset.fold_max_le (β := EReal) b).trans ?_
  rw [show FloatOps.ofBits (F := Ideal) φ acc = ⊥ from hbot]
  simp

/-- What bounds a reshaped array. -/
theorem shapeCast_le {s t : Shape} (x : s.Idx → EReal) (h : s.ShapeCasts t) (b : EReal) :
    (∀ i, shapeCast t x h i ≤ b) ↔ ∀ p, x p ≤ b :=
  ⟨fun hh p => by simpa [shapeCast] using hh ((Shape.reshapeEquiv h).symm p), fun hh i => hh _⟩

/-- Minus infinity, as both formats write it. -/
theorem bot_f32 : Ideal.ofBits .f32 0xFF800000#32 = ⊥ := by simp [Ideal.ofBits, Ideal.ieee]
/-- Minus infinity in the shorter format. -/
theorem bot_bf16 : Ideal.ofBits .bf16 0xFF80#16 = ⊥ := by simp [Ideal.ofBits, Ideal.ieee]

/-! ## The kernel's running maxima -/

/-- One index in a `1x1` array. -/
theorem idx11 (i j : (⟨2, ![1, 1]⟩ : Shape).Idx) : i = j := by
  funext a; apply Fin.ext
  have h : ∀ a, (⟨2, ![1, 1]⟩ : Shape).size a = 1 := by decide
  have := (i a).isLt; have := (j a).isLt; have := h a; omega

/-- One index in an array of one element. -/
theorem idx1 (i j : (⟨1, ![1]⟩ : Shape).Idx) : i = j := by
  funext a; apply Fin.ext
  have h : ∀ a, (⟨1, ![1]⟩ : Shape).size a = 1 := by decide
  have := (i a).isLt; have := (j a).isLt; have := h a; omega

/-- A one-element array kept as `1x1` reads as its element. -/
theorem keep_apply {α : Type} (x : (⟨1, ![1]⟩ : Shape).Idx → α) (h : (⟨1, ![1]⟩ : Shape).ShapeCasts ⟨3, ![1, 1, 1]⟩)
    (h' : ∀ a, (![0, 0, 0] : Fin 3 → Nat) a < (⟨3, ![1, 1, 1]⟩ : Shape).size a) (i : (⟨2, ![1, 1]⟩ : Shape).Idx) (k : (⟨1, ![1]⟩ : Shape).Idx) :
    broadcast (⟨2, ![1, 1]⟩ : Shape) (extractAt (![0, 0, 0] : Fin 3 → Nat) (shapeCast ⟨3, ![1, 1, 1]⟩ x h) h') i = x k := congrArg x (idx1 _ _)

/-- The one index. -/
def at1 : (⟨1, ![1]⟩ : Shape).Idx := fun _ => ⟨0, by decide +revert⟩

/-- What bounds the running maxima of `dy` after a point: what bounds them before it, and the point's block. -/
theorem stepDy_le (x : Vec Ideal Cert.KernelIdeal.S512x1024 .bf16) (v : Vec Ideal Cert.KernelIdeal.S16x1024 .bf16) (b : EReal) :
    (∀ q, Cert.KernelIdeal.Gen.k0_pay3 (F := Ideal) x v q ≤ b) ↔ (∀ q, v q ≤ b) ∧ ∀ p, mag (x p) ≤ b := by
  unfold Cert.KernelIdeal.Gen.k0_pay3
  refine (shapeCast_le _ _ b).trans ?_
  refine Iff.trans (forall_congr' fun q => max_le_iff (a := v q)) ?_
  rw [forall_and]
  refine and_congr_right fun _ => ?_
  rw [← shapeCast_le (fun p => mag (x p)) Cert.KernelIdeal.Gen.shapeCasts_S512x1024_S32x16x1024 b]
  refine Iff.trans (forall_congr' fun q => reduceMax_le _ _ _ _ _ bot_bf16 q b) ?_
  rw [shapeCast_self]
  exact ⟨fun h i => h _ i rfl, fun h _ i _ => h i⟩

/-- What bounds the running maxima of `w` after a point. -/
theorem stepW_le (x : Vec Ideal Cert.KernelIdeal.S1168x1024 .f32) (v : Vec Ideal Cert.KernelIdeal.S8x1024 .f32) (b : EReal) :
    (∀ q, Cert.KernelIdeal.Gen.k0_pay4 (F := Ideal) x v q ≤ b) ↔ (∀ q, v q ≤ b) ∧ ∀ p, mag (x p) ≤ b := by
  unfold Cert.KernelIdeal.Gen.k0_pay4
  refine (shapeCast_le _ _ b).trans ?_
  refine Iff.trans (forall_congr' fun q => max_le_iff (a := v q)) ?_
  rw [forall_and]
  refine and_congr_right fun _ => ?_
  rw [← shapeCast_le (fun p => mag (x p)) Cert.KernelIdeal.Gen.shapeCasts_S1168x1024_S146x8x1024 b]
  refine Iff.trans (forall_congr' fun q => reduceMax_le _ _ _ _ _ bot_f32 q b) ?_
  exact ⟨fun h i => h _ i rfl, fun h _ i _ => h i⟩

/-- The running maxima of `dy` start at zero. -/
theorem startDy (q : Cert.KernelIdeal.S16x1024.Idx) : Cert.KernelIdeal.Gen.k0_pay1 (F := Ideal) q = 0 := by
  show Ideal.ofBits .bf16 0x0000#16 = 0
  simp [Ideal.ofBits, Ideal.ieee]

/-- The running maxima of `w` start at zero. -/
theorem startW (q : Cert.KernelIdeal.S8x1024.Idx) : Cert.KernelIdeal.Gen.k0_pay2 (F := Ideal) q = 0 := by
  show Ideal.ofBits .f32 0x00000000#32 = 0
  simp [Ideal.ofBits, Ideal.ieee]

/-- What bounds the maximum of the running maxima of `dy`. -/
theorem lastDy_le (v : Vec Ideal Cert.KernelIdeal.S16x1024 .bf16) (i : Cert.KernelIdeal.S1x1.Idx) (b : EReal) :
    Cert.KernelIdeal.Gen.k0_pay7 (F := Ideal) v i ≤ b ↔ ∀ q, v q ≤ b := by
  rw [← shapeCast_le v Cert.KernelIdeal.Gen.shapeCasts_S16x1024_S1x16x1024 b]
  unfold Cert.KernelIdeal.Gen.k0_pay7
  rw [keep_apply _ _ _ _ at1]
  refine (reduceMax_le _ _ _ _ _ bot_f32 _ b).trans ?_
  exact ⟨fun h i => h i (idx1 _ _), fun h i _ => h i⟩

/-- What bounds the maximum of the running maxima of `w`. -/
theorem lastW_le (v : Vec Ideal Cert.KernelIdeal.S8x1024 .f32) (i : Cert.KernelIdeal.S1x1.Idx) (b : EReal) :
    Cert.KernelIdeal.Gen.k0_pay8 (F := Ideal) v i ≤ b ↔ ∀ q, v q ≤ b := by
  rw [← shapeCast_le v Cert.KernelIdeal.Gen.shapeCasts_S8x1024_S1x8x1024 b]
  unfold Cert.KernelIdeal.Gen.k0_pay8
  rw [keep_apply _ _ _ _ at1]
  refine (reduceMax_le _ _ _ _ _ bot_f32 _ b).trans ?_
  exact ⟨fun h i => h i (idx1 _ _), fun h i _ => h i⟩

/-! ## The reference's exponents -/

open Cert.ReferenceIdeal Cert.ReferenceIdeal.Gen

/-- The reference's exponent from a maximum. -/
def refExp {F : FTy → Type} [FloatOps F] (c : BitVec 32) (v8 : FVec F S1x1 .f32) : FVec F S1x1 .f32 :=
  select (andi (cmpf .ogt (mulf v8 (broadcast S1x1 (Scalar.ofBits .f32 c))) (broadcast S1x1 (Scalar.ofBits .f32 0x00000000#32)))
      (cmpf .olt (mulf v8 (broadcast S1x1 (Scalar.ofBits .f32 c))) (broadcast S1x1 (Scalar.ofBits .f32 0x7F800000#32))))
    (subf (shapeCast S1x1 (multiReduction .add [1] S1 (select (cmpf .oge
        (broadcastTo S1x254 (mulf v8 (broadcast S1x1 (Scalar.ofBits .f32 c))) broadcasts_S1x1_S1x254)
        (exp2 (sitofp .f32 (subi (iota .tc S1x254 32 [1] iota_S1x254_d1_w32) (broadcast S1x254 126#32)))))
      (broadcast S1x254 (Scalar.ofBits .f32 0x3F800000#32)) (broadcast S1x254 (Scalar.ofBits .f32 0x00000000#32)))
      0x00000000#32 reduces_S1x254_S1 (.inl rfl) rfl) shapeCasts_S1_S1x1) (broadcast S1x1 (Scalar.ofBits .f32 0x42FC0000#32)))
    (broadcast S1x1 (Scalar.ofBits .f32 0x00000000#32))

/-- The value compared at a place: its power of two. -/
theorem iota_word : ∀ k : Fin 254, (BitVec.ofNat 32 (0 * 254 + k.val) - 126#32).toInt = (k : ℤ) - 126 := by decide

/-- The reference's exponent is the exponent. -/
theorem refExp_apply (c : BitVec 32) (a : FVec Ideal S1x1 .f32) (i : S1x1.Idx) :
    refExp c a i = (((expZ (a i * Ideal.ofBits .f32 c) : ℤ) : ℝ) : EReal) := by
  have h0 : Ideal.ofBits .f32 0x00000000#32 = 0 := by simp [Ideal.ofBits, Ideal.ieee]
  have h126 : Ideal.ofBits .f32 0x42FC0000#32 = ((126 : ℝ) : EReal) := by
    simp [Ideal.ofBits, Ideal.ieee, -EReal.coe_mul]; norm_num
  have hs : ∀ k : Fin 254, ∀ j : S1.Idx,
      (select (cmpf .oge
        (broadcastTo S1x254 (mulf a (broadcast S1x1 (Scalar.ofBits .f32 c))) broadcasts_S1x1_S1x254)
        (exp2 (sitofp .f32 (subi (iota .tc S1x254 32 [1] iota_S1x254_d1_w32) (broadcast S1x254 126#32)))))
      (broadcast S1x254 (Scalar.ofBits .f32 0x3F800000#32)) (broadcast S1x254 (Scalar.ofBits .f32 0x00000000#32)) : FVec Ideal S1x254 .f32)
        (reduces_S1x254_S1.lift j k) = if p2 ((k : ℤ) - 126) ≤ a i * Ideal.ofBits .f32 c then (1 : EReal) else 0 := by
    intro k j
    have hb : broadcastTo S1x254 (mulf a (broadcast S1x1 (Scalar.ofBits .f32 c))) broadcasts_S1x1_S1x254 (reduces_S1x254_S1.lift j k)
        = a i * Ideal.ofBits .f32 c := congrArg (fun q => a q * Ideal.ofBits .f32 c) (idx11 _ _)
    have he : exp2 (F := Ideal) (φ := .f32) (sitofp .f32 (subi (iota .tc S1x254 32 [1] iota_S1x254_d1_w32) (broadcast S1x254 126#32))) (reduces_S1x254_S1.lift j k)
        = p2 ((k : ℤ) - 126) := by
      rw [← exp2_int, ← iota_word k]; rfl
    show Scalar.select (Ideal.cmp .oge _ _) (Ideal.ofBits .f32 0x3F800000#32) (Ideal.ofBits .f32 0x00000000#32) = _
    rw [hb, he, h0, Ideal.ofBits_one_f32]
    unfold Ideal.cmp
    by_cases hL : p2 ((k : ℤ) - 126) ≤ a i * Ideal.ofBits .f32 c
    · rw [if_pos hL, decide_eq_true hL]; rfl
    · rw [if_neg hL, decide_eq_false hL]; rfl
  have key : ∀ z : EReal, z = ∑ k : Fin 254, (if p2 ((k : ℤ) - 126) ≤ a i * Ideal.ofBits .f32 c then (1 : EReal) else 0) →
      Scalar.select (IntOp.andi (Ideal.cmp .ogt (a i * Ideal.ofBits .f32 c) (Ideal.ofBits .f32 0x00000000#32))
          (Ideal.cmp .olt (a i * Ideal.ofBits .f32 c) (Ideal.ofBits .f32 0x7F800000#32)))
        (z - Ideal.ofBits .f32 0x42FC0000#32) (Ideal.ofBits .f32 0x00000000#32) = (((expZ (a i * Ideal.ofBits .f32 c) : ℤ) : ℝ) : EReal) := by
    intro z hz
    rw [finite_select, h0, h126, hz]
    by_cases hx : 0 < a i * Ideal.ofBits .f32 c ∧ a i * Ideal.ofBits .f32 c < ⊤
    · rw [if_pos hx, count_eq _ hx]
    · rw [if_neg hx, show expZ (a i * Ideal.ofBits .f32 c) = 0 from if_neg hx]; simp
  refine key _ ?_
  refine (Ideal.multiReduction_add_single _ _ _ _ _ _).trans ?_
  exact Finset.sum_congr rfl fun k _ => hs k _

/-- The reference's maximum of `dy`, as a `1x1` array. -/
def refDy {F : FTy → Type} [FloatOps F] (v0 : Vec F S4096x1024 .bf16) : FVec F S1x1 .f32 :=
  broadcast S1x1 (extractAt ![0, 0, 0] (shapeCast S1x1x1 (multiReduction .maximumf [1, 2] S1
    (shapeCast S1x4096x1024 (absf (k0_pay1 v0)) shapeCasts_S4096x1024_S1x4096x1024) 0xFF800000#32 reduces_S1x4096x1024_S1 (.inl rfl) rfl)
    shapeCasts_S1_S1x1x1) inpos_S1x1x1_p0_0_0)

/-- The reference's maximum of `w`, as a `1x1` array. -/
def refW {F : FTy → Type} [FloatOps F] (v43 : Vec F S9344x1024 .f32) : FVec F S1x1 .f32 :=
  broadcast S1x1 (extractAt ![0, 0, 0] (shapeCast S1x1x1 (multiReduction .maximumf [1, 2] S1
    (shapeCast S1x9344x1024 (absf v43) shapeCasts_S9344x1024_S1x9344x1024) 0xFF800000#32 reduces_S1x9344x1024_S1 (.inl rfl) rfl) shapeCasts_S1_S1x1x1) inpos_S1x1x1_p0_0_0)

/-- The reference's exponent of `dy` is the exponent of its maximum. -/
theorem pay2_eq {F : FTy → Type} [FloatOps F] (v0 : Vec F S4096x1024 .bf16) : k0_pay2 v0 = refExp 0x37924925#32 (refDy v0) := rfl

/-- The reference's exponent of `w` is the exponent of its maximum. -/
theorem pay5_eq {F : FTy → Type} [FloatOps F] (v43 : Vec F S9344x1024 .f32) : k0_pay5 v43 = refExp 0x3B124925#32 (refW v43) := rfl

/-- The reference's maximum of `dy` is the largest magnitude. -/
theorem refDy_apply (x : Vec Ideal S4096x1024 .bf16) (i : S1x1.Idx) : refDy (F := Ideal) x i = amax x := by
  refine eq_of_forall_ge_iff fun b => ?_
  rw [amax_le, ← shapeCast_le (fun p => mag (x p)) shapeCasts_S4096x1024_S1x4096x1024 b]
  unfold refDy k0_pay1
  rw [keep_apply _ _ _ _ at1]
  refine (reduceMax_le _ _ _ _ _ bot_f32 _ b).trans ?_
  rw [shapeCast_self]
  exact ⟨fun h i => h i (idx1 _ _), fun h i _ => h i⟩

/-- The reference's maximum of `w` is the largest magnitude. -/
theorem refW_apply (x : Vec Ideal S9344x1024 .f32) (i : S1x1.Idx) : refW (F := Ideal) x i = amax x := by
  refine eq_of_forall_ge_iff fun b => ?_
  rw [amax_le, ← shapeCast_le (fun p => mag (x p)) shapeCasts_S9344x1024_S1x9344x1024 b]
  unfold refW
  rw [keep_apply _ _ _ _ at1]
  refine (reduceMax_le _ _ _ _ _ bot_f32 _ b).trans ?_
  exact ⟨fun h i => h i (idx1 _ _), fun h i _ => h i⟩

end Cert.Scale
end
-- ==== Proof.Target.lean ====
/- What the five results are at exact arithmetic, as functions of `dy` (one row per token) and `w`; and that the reference's block,
   the whole of both arrays, computes them. -/
module

public import proofs.«01_k».proof.Proof.Maxima
public import proofs.«01_k».proof.Proof.Gen.ReferenceIdeal.Frame
public import Idealize.ShloMosaic.Lib.MatmulPlain

@[expose] public section

noncomputable section

namespace Cert.Scale

open Idealize.ShloMosaic Idealize.ShloMosaic.ValueIdx
open Cert.ReferenceIdeal Cert.ReferenceIdeal.Gen

/-- The exponent of the scale of `dy`. -/
def eDy (X : S4096x1024.Idx → EReal) : ℤ := expZ (amax X * Ideal.ofBits .f32 0x37924925#32)
/-- The exponent of the scale of `w`. -/
def eW (Y : S9344x1024.Idx → EReal) : ℤ := expZ (amax Y * Ideal.ofBits .f32 0x3B124925#32)

/-- A value of `dy` scaled by `a` and clipped. -/
def clipDy (x a : EReal) : EReal := min (Ideal.ofBits .f32 0x47600000#32) (max (Ideal.ofBits .f32 0xC7600000#32) (x * a))
/-- A value of `w` scaled by `a` and clipped. -/
def clipW (y a : EReal) : EReal := min (Ideal.ofBits .f32 0x43E00000#32) (max (Ideal.ofBits .f32 0xC3E00000#32) (y * a))

/-- The codes of `dy`. -/
def tDyq (X : S4096x1024.Idx → EReal) (p : S4096x1024.Idx) : EReal := clipDy (X p) (p2 (-eDy X))
/-- The codes of `w`. -/
def tWq (Y : S9344x1024.Idx → EReal) (p : S9344x1024.Idx) : EReal := clipW (Y p) (p2 (-eW Y))
/-- One entry of the product. -/
def tDxAt (X : S4096x1024.Idx → EReal) (Y : S9344x1024.Idx → EReal) (r : Fin 4096) (n : Fin 9344) : EReal :=
  (∑ k : Fin 1024, tDyq X (ix2 r k) * tWq Y (ix2 n k)) * (p2 (eDy X) * p2 (eW Y))
/-- The product. -/
def tDx (X : S4096x1024.Idx → EReal) (Y : S9344x1024.Idx → EReal) (p : S4096x9344.Idx) : EReal := tDxAt X Y (p 0) (p 1)

/-- The zero of the wider format. -/
theorem zero_f32 : Ideal.ofBits .f32 0x00000000#32 = 0 := by simp [Ideal.ofBits, Ideal.ieee]

/-! ## The reference's values -/

/-- The reference's exponent of `dy`. -/
theorem pay2_apply (x : Vec Ideal S4096x1024 .bf16) (i : S1x1.Idx) : k0_pay2 (F := Ideal) x i = ((eDy x : ℝ) : EReal) := by
  rw [pay2_eq, refExp_apply, refDy_apply]; rfl

/-- The reference's exponent of `w`. -/
theorem pay5_apply (y : Vec Ideal S9344x1024 .f32) (i : S1x1.Idx) : k0_pay5 (F := Ideal) y i = ((eW y : ℝ) : EReal) := by
  rw [pay5_eq, refExp_apply, refW_apply]; rfl

/-- The power of two of a negated exponent. -/
theorem exp2_neg (e : ℤ) : Ideal.exp2 (Ideal.ofBits .f32 0x00000000#32 - ((e : ℝ) : EReal)) = p2 (-e) := by
  rw [zero_f32, zero_sub, ← exp2_int]; congr 1; push_cast; rfl

/-- The power of two of an exponent. -/
theorem exp2_apply {s : Shape} (z : FVec Ideal s .f32) (e : ℤ) (i : s.Idx) (h : z i = ((e : ℝ) : EReal)) : exp2 z i = p2 e := by
  show Ideal.exp2 (z i) = p2 e
  rw [h, exp2_int]

/-- The reference's scale of `dy`. -/
theorem refSdy (x : Vec Ideal S4096x1024 .bf16) (i : S1x1.Idx) : k0_pay3 (F := Ideal) x i = p2 (eDy x) := by
  unfold k0_pay3
  exact exp2_apply _ _ _ (pay2_apply x i)

/-- The reference's scale of `w`. -/
theorem refSw (y : Vec Ideal S9344x1024 .f32) (i : S1x1.Idx) : k0_pay6 (F := Ideal) y i = p2 (eW y) := by
  unfold k0_pay6
  exact exp2_apply _ _ _ (pay5_apply y i)

/-- Scaling by the power of two of a negated exponent and clipping, read at an index. -/
theorem code_apply {s t : Shape} {φ : FTy} (x : FVec Ideal s .f32) (z : FVec Ideal t .f32) (lo hi : BitVec 32) (h : t.Broadcasts s)
    (hφ : φ.bits < FTy.f32.bits) (e : ℤ) (hz : ∀ i, z i = ((e : ℝ) : EReal)) (p : s.Idx) :
    truncf φ (minimumf (broadcast s (Scalar.ofBits (F := Ideal) .f32 hi)) (maximumf (broadcast s (Scalar.ofBits .f32 lo))
      (mulf x (broadcastTo s (exp2 (subf (broadcast t (Scalar.ofBits .f32 0x00000000#32)) z)) h)))) hφ p
      = min (Ideal.ofBits .f32 hi) (max (Ideal.ofBits .f32 lo) (x p * p2 (-e))) := by
  have key : ∀ i, min (Ideal.ofBits .f32 hi) (max (Ideal.ofBits .f32 lo) (x p * Ideal.exp2 (Ideal.ofBits .f32 0x00000000#32 - z i)))
      = min (Ideal.ofBits .f32 hi) (max (Ideal.ofBits .f32 lo) (x p * p2 (-e))) := fun i => by rw [hz, exp2_neg]
  exact key _

/-- A product with the second operand transposed, into zero. -/
theorem dot_apply {M K N : ℕ} {φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (r : FVec Ideal ⟨2, ![N, K]⟩ φ₂) (i : Fin M) (j : Fin N) :
    matmul d none l r (constant _ .f32 0x00000000#32) (ix2 i j) = ∑ k : Fin K, l (ix2 i k) * r (ix2 j k) := by
  subst hd
  refine (Ideal.matmul_transposedRhs_apply none l r _ i j).trans ?_
  exact (congrArg (· + _) zero_f32).trans (zero_add _)

/-- A product scaled by the product of two scales, read at an index. -/
theorem scaled_apply {s t : Shape} {φ : FTy} (x : FVec Ideal s .f32) (z z' : FVec Ideal t .f32) (h : t.Broadcasts s)
    (hφ : φ.bits < FTy.f32.bits) (a a' : EReal) (hz : ∀ i, z i = a) (hz' : ∀ i, z' i = a') (p : s.Idx) :
    truncf φ (mulf x (broadcastTo s (mulf z z') h)) hφ p = x p * (a * a') := by
  have key : ∀ i, x p * (z i * z' i) = x p * (a * a') := fun i => by rw [hz, hz']
  exact key _

/-- The reference's codes of `dy`. -/
theorem refDyq (x : Vec Ideal S4096x1024 .bf16) (p : S4096x1024.Idx) : k0_pay4 (F := Ideal) x p = tDyq x p := by
  have h := pay2_apply x
  unfold k0_pay4 k0_pay1
  rw [shapeCast_self]
  generalize k0_pay2 (F := Ideal) x = z at h ⊢
  exact code_apply (φ := .fp8e5m2) (extf .f32 x bitsLt_bf16_f32) z _ _ _ _ _ h p

/-- The reference's codes of `w`. -/
theorem refWq (y : Vec Ideal S9344x1024 .f32) (p : S9344x1024.Idx) : k0_pay7 (F := Ideal) y p = tWq y p := by
  have h := pay5_apply y
  unfold k0_pay7
  generalize k0_pay5 (F := Ideal) y = z at h ⊢
  exact code_apply (φ := .fp8e4m3) y z _ _ _ _ _ h p

/-- The reference's product. -/
theorem refDx (x : Vec Ideal S4096x1024 .bf16) (y : Vec Ideal S9344x1024 .f32) (p : S4096x9344.Idx) :
    k0_pay8 (F := Ideal) (k0_pay3 x) (k0_pay4 x) y p = tDx x y p := by
  have h3 := refSdy x
  have h7 := refSw y
  have h4 := refDyq x
  have h8 := refWq y
  unfold k0_pay8
  generalize k0_pay3 (F := Ideal) x = z3 at h3 ⊢
  generalize k0_pay6 (F := Ideal) y = z7 at h7 ⊢
  generalize k0_pay4 (F := Ideal) x = z4 at h4 ⊢
  generalize k0_pay7 (F := Ideal) y = z8 at h8 ⊢
  refine (scaled_apply (φ := .bf16) _ z3 z7 _ bitsLt_bf16_f32 _ _ h3 h7 p).trans (congrArg (· * _) ?_)
  obtain ⟨i, j, rfl⟩ : ∃ i j, p = ix2 i j := ⟨p 0, p 1, eq_ix2 p⟩
  refine (dot_apply _ rfl z4 z8 i j).trans ?_
  exact Finset.sum_congr rfl fun k _ => congrArg₂ (· * ·) (h4 _) (h8 _)

/-! ## The reference's block -/

/-- The block starts at the array's start. -/
theorem off0 : (![0, 0] : Fin 2 → ℕ) = fun _ => 0 := by funext a; fin_cases a <;> rfl

/-- The reference's staging buffers after the body: the five results. -/
theorem refOut2 (x : Vec Ideal S4096x1024 .bf16) (y : Vec Ideal S9344x1024 .f32) : out0_2 (F := Ideal) x y = tDx x y := by
  unfold out0_2 k0_pay9 k0_pay10
  rw [View.canon_unit_zero off0, View.ld_unit_zero off0, View.ld_unit_zero off0]; exact funext fun p => refDx x y p
/-- The codes of `dy`. -/
theorem refOut3 (x : Vec Ideal S4096x1024 .bf16) (y : Vec Ideal S9344x1024 .f32) : out0_3 (F := Ideal) x y = tDyq x := by
  unfold out0_3 k0_pay10
  rw [View.canon_unit_zero off0, View.ld_unit_zero off0]; exact funext fun p => refDyq x p
/-- The scale of `dy`. -/
theorem refOut4 (x : Vec Ideal S4096x1024 .bf16) (y : Vec Ideal S9344x1024 .f32) : out0_4 (F := Ideal) x y = fun _ => p2 (eDy x) := by
  unfold out0_4 k0_pay9
  rw [View.canon_unit_zero off0, View.ld_unit_zero off0]; exact funext fun p => refSdy x p
/-- The codes of `w`. -/
theorem refOut5 (x : Vec Ideal S4096x1024 .bf16) (y : Vec Ideal S9344x1024 .f32) : out0_5 (F := Ideal) x y = tWq y := by
  unfold out0_5
  rw [View.canon_unit_zero off0, View.ld_unit_zero off0]; exact funext fun p => refWq y p
/-- The scale of `w`. -/
theorem refOut6 (x : Vec Ideal S4096x1024 .bf16) (y : Vec Ideal S9344x1024 .f32) : out0_6 (F := Ideal) x y = fun _ => p2 (eW y) := by
  unfold out0_6
  rw [View.canon_unit_zero off0, View.ld_unit_zero off0]; exact funext fun p => refSw y p

end Cert.Scale
end
-- ==== Proof.KerScale.lean ====
/- What the first kernel leaves at exact arithmetic: its running maxima reach the largest magnitude of each array, so its four scalars
   are the two powers of two and their inverses. -/
module

public import proofs.«01_k».proof.Proof.Run
public import proofs.«01_k».proof.Proof.Ladder
public import proofs.«01_k».proof.Proof.Target
public import Idealize.ShloMosaic.Lib.Pipeline.ValueKit

@[expose] public section

noncomputable section

namespace Cert.KernelIdeal.Hand

open Idealize.ShloMosaic hiding ix1 ix2 ix3 eq_ix2 eq_ix1 eq_ix3
open Idealize.ShloMosaic.ValueIdx Idealize.SL.Sem Cert.KernelIdeal Cert.KernelIdeal.Gen Cert.Scale
open Idealize.ShloMosaic.TcCoe

variable (W : Dev nD → Valuation τ sig (Elt Ideal)) (c : Dev nD)

/-- `dy` as the first kernel reads it. -/
abbrev arrDy : S4096x1024.Idx → EReal := W c (main_v0 : DevRef τ sig)
/-- `w` as the first kernel reads it. -/
abbrev arrW : S9344x1024.Idx → EReal := W c (main_arg1 : DevRef τ sig)

/-- Which rows of `dy` a point reads. -/
theorem index0_0 : ∀ t : Fin cfg0.N, win0_0.index t = ![t.val, 0] := by decide +kernel
/-- Which rows of `w` a point reads. -/
theorem index0_1 : ∀ t : Fin cfg0.N, win0_1.index t = ![t.val, 0] := by decide +kernel

/-- A block of `dy` at an index. -/
theorem iblk0_0_apply (t : Fin cfg0.N) (p : S512x1024.Idx) (r : Fin 4096) (hr : r.val = t.val * 512 + (p 0).val) :
    iblk0 W c 0 t p = arrDy W c (ix2 r (p 1)) := by
  unfold iblk0
  blk_simp
  refine congrArg (arrDy W c) ?_
  blk_ext [index0_0]
  all_goals first | rfl | exact hr.symm

/-- A block of `w` at an index. -/
theorem iblk0_1_apply (t : Fin cfg0.N) (p : S1168x1024.Idx) (r : Fin 9344) (hr : r.val = t.val * 1168 + (p 0).val) :
    iblk0 W c 1 t p = arrW W c (ix2 r (p 1)) := by
  unfold iblk0
  blk_simp
  refine congrArg (arrW W c) ?_
  blk_ext [index0_1]
  all_goals first | rfl | exact hr.symm

/-- What bounds the running maxima of `dy`: zero and every magnitude read so far. -/
theorem accDy_le (b : EReal) : ∀ (n : ℕ) (h : n < cfg0.N),
    (∀ q, accDy W c n h q ≤ b) ↔ 0 ≤ b ∧ ∀ t : Fin cfg0.N, t.val ≤ n → ∀ p, mag (iblk0 W c 0 t p) ≤ b
  | 0, h => by
    refine (stepDy_le _ _ b).trans (and_congr ?_ ?_)
    · exact ⟨fun hh => (startDy (ix2 0 0)).symm.le.trans (hh _), fun hh q => (startDy q).le.trans hh⟩
    · exact ⟨fun hh t ht p => by obtain rfl : t = ⟨0, h⟩ := Fin.ext (Nat.le_zero.1 ht); exact hh p, fun hh p => hh ⟨0, h⟩ le_rfl p⟩
  | n + 1, h => by
    refine (stepDy_le _ _ b).trans ?_
    rw [accDy_le b n]
    constructor
    · rintro ⟨⟨h0, h1⟩, h2⟩
      refine ⟨h0, fun t ht p => ?_⟩
      rcases Nat.le_succ_iff.1 ht with h' | h'
      · exact h1 t h' p
      · obtain rfl : t = ⟨n + 1, h⟩ := Fin.ext h'
        exact h2 p
    · rintro ⟨h0, h1⟩
      exact ⟨⟨h0, fun t ht p => h1 t (Nat.le_succ_of_le ht) p⟩, fun p => h1 ⟨n + 1, h⟩ le_rfl p⟩

/-- What bounds the running maxima of `w`. -/
theorem accW_le (b : EReal) : ∀ (n : ℕ) (h : n < cfg0.N),
    (∀ q, accW W c n h q ≤ b) ↔ 0 ≤ b ∧ ∀ t : Fin cfg0.N, t.val ≤ n → ∀ p, mag (iblk0 W c 1 t p) ≤ b
  | 0, h => by
    refine (stepW_le _ _ b).trans (and_congr ?_ ?_)
    · exact ⟨fun hh => (startW (ix2 0 0)).symm.le.trans (hh _), fun hh q => (startW q).le.trans hh⟩
    · exact ⟨fun hh t ht p => by obtain rfl : t = ⟨0, h⟩ := Fin.ext (Nat.le_zero.1 ht); exact hh p, fun hh p => hh ⟨0, h⟩ le_rfl p⟩
  | n + 1, h => by
    refine (stepW_le _ _ b).trans ?_
    rw [accW_le b n]
    constructor
    · rintro ⟨⟨h0, h1⟩, h2⟩
      refine ⟨h0, fun t ht p => ?_⟩
      rcases Nat.le_succ_iff.1 ht with h' | h'
      · exact h1 t h' p
      · obtain rfl : t = ⟨n + 1, h⟩ := Fin.ext h'
        exact h2 p
    · rintro ⟨h0, h1⟩
      exact ⟨⟨h0, fun t ht p => h1 t (Nat.le_succ_of_le ht) p⟩, fun p => h1 ⟨n + 1, h⟩ le_rfl p⟩

/-- The last point of the first kernel. -/
def last0 : Fin cfg0.N := ⟨7, by decide⟩

/-- The first kernel finds the largest magnitude of `dy`. -/
theorem maxDy (i : S1x1.Idx) : k0_pay7 (F := Ideal) (accDy W c last0.val last0.isLt) i = amax (arrDy W c) := by
  refine eq_of_forall_ge_iff fun b => ?_
  rw [lastDy_le, accDy_le, amax_le]
  constructor
  · rintro ⟨-, h⟩ p
    have h0 : (p 0).val < 4096 := (p 0).isLt
    have hN : cfg0.N = 8 := N_0
    have hq := iblk0_0_apply W c ⟨(p 0).val / 512, by omega⟩ (ix2 ⟨(p 0).val % 512, by omega⟩ (p 1)) (p 0)
      (by show (p 0).val = (p 0).val / 512 * 512 + (p 0).val % 512; omega)
    have := h ⟨(p 0).val / 512, by omega⟩ (by show (p 0).val / 512 ≤ 7; omega) (ix2 ⟨(p 0).val % 512, by omega⟩ (p 1))
    rw [hq] at this
    exact (congrArg (fun q => mag (arrDy W c q)) (eq_ix2 p)).le.trans this
  · intro h
    refine ⟨(mag_nonneg _).trans (h (ix2 0 0)), fun t _ p => ?_⟩
    have hN : cfg0.N = 8 := N_0
    have h0 : (p 0).val < 512 := (p 0).isLt
    have ht := t.isLt
    rw [iblk0_0_apply W c t p ⟨t.val * 512 + (p 0).val, by omega⟩ rfl]
    exact h _

/-- The first kernel finds the largest magnitude of `w`. -/
theorem maxW (i : S1x1.Idx) : k0_pay8 (F := Ideal) (accW W c last0.val last0.isLt) i = amax (arrW W c) := by
  refine eq_of_forall_ge_iff fun b => ?_
  rw [lastW_le, accW_le, amax_le]
  constructor
  · rintro ⟨-, h⟩ p
    have h0 : (p 0).val < 9344 := (p 0).isLt
    have hN : cfg0.N = 8 := N_0
    have hq := iblk0_1_apply W c ⟨(p 0).val / 1168, by omega⟩ (ix2 ⟨(p 0).val % 1168, by omega⟩ (p 1)) (p 0)
      (by show (p 0).val = (p 0).val / 1168 * 1168 + (p 0).val % 1168; omega)
    have := h ⟨(p 0).val / 1168, by omega⟩ (by show (p 0).val / 1168 ≤ 7; omega) (ix2 ⟨(p 0).val % 1168, by omega⟩ (p 1))
    rw [hq] at this
    exact (congrArg (fun q => mag (arrW W c q)) (eq_ix2 p)).le.trans this
  · intro h
    refine ⟨(mag_nonneg _).trans (h (ix2 0 0)), fun t _ p => ?_⟩
    have hN : cfg0.N = 8 := N_0
    have h0 : (p 0).val < 1168 := (p 0).isLt
    have ht := t.isLt
    rw [iblk0_1_apply W c t p ⟨t.val * 1168 + (p 0).val, by omega⟩ rfl]
    exact h _

/-- The scale of `dy` comes from the maxima after the last point. -/
theorem arr0_2 : (dat0 W c).arrAt 2 cfg0.N = sdyOf (accDy W c last0.val last0.isLt) := by
  have key : ∀ G : Vec Ideal S1x1 .f32, (dat0 W c).after 2 last0 = G → (dat0 W c).arrAt 2 cfg0.N = G := fun G hG => by
    refine (dat0 W c).arrAt_eq_of_after_last 2 last0 (by decide +kernel) G fun j => ?_
    rw [hG]
    rfl
  exact key _ (after0_2 W c last0)
/-- Its inverse, likewise. -/
theorem arr0_3 : (dat0 W c).arrAt 3 cfg0.N = idyOf (accDy W c last0.val last0.isLt) := by
  have key : ∀ G : Vec Ideal S1x1 .f32, (dat0 W c).after 3 last0 = G → (dat0 W c).arrAt 3 cfg0.N = G := fun G hG => by
    refine (dat0 W c).arrAt_eq_of_after_last 3 last0 (by decide +kernel) G fun j => ?_
    rw [hG]
    rfl
  exact key _ (after0_3 W c last0)
/-- The scale of `w` comes from the maxima after the last point. -/
theorem arr0_4 : (dat0 W c).arrAt 4 cfg0.N = swOf (accW W c last0.val last0.isLt) := by
  have key : ∀ G : Vec Ideal S1x1 .f32, (dat0 W c).after 4 last0 = G → (dat0 W c).arrAt 4 cfg0.N = G := fun G hG => by
    refine (dat0 W c).arrAt_eq_of_after_last 4 last0 (by decide +kernel) G fun j => ?_
    rw [hG]
    rfl
  exact key _ (after0_4 W c last0)
/-- Its inverse, likewise. -/
theorem arr0_5 : (dat0 W c).arrAt 5 cfg0.N = iwOf (accW W c last0.val last0.isLt) := by
  have key : ∀ G : Vec Ideal S1x1 .f32, (dat0 W c).after 5 last0 = G → (dat0 W c).arrAt 5 cfg0.N = G := fun G hG => by
    refine (dat0 W c).arrAt_eq_of_after_last 5 last0 (by decide +kernel) G fun j => ?_
    rw [hG]
    rfl
  exact key _ (after0_5 W c last0)
/-- The scale of `dy` the first kernel leaves. -/
theorem scal2 : (dat0 W c).arrAt 2 cfg0.N = fun _ => p2 (eDy (arrDy W c)) := by
  have h := maxDy W c
  rw [arr0_2, sdyOf_eq]
  generalize accDy W c last0.val last0.isLt = v at h ⊢
  funext i
  refine (scale_apply _ c5_pos _ i).trans ?_
  rw [h]
  unfold eDy
  rfl
/-- Its inverse. -/
theorem scal3 : (dat0 W c).arrAt 3 cfg0.N = fun _ => p2 (-eDy (arrDy W c)) := by
  have h := maxDy W c
  rw [arr0_3, idyOf_eq]
  generalize accDy W c last0.val last0.isLt = v at h ⊢
  funext i
  refine (inv_apply _ c5_pos _ i).trans ?_
  rw [h]
  unfold eDy
  rfl
/-- The scale of `w` the first kernel leaves. -/
theorem scal4 : (dat0 W c).arrAt 4 cfg0.N = fun _ => p2 (eW (arrW W c)) := by
  have h := maxW W c
  rw [arr0_4, swOf_eq]
  generalize accW W c last0.val last0.isLt = v at h ⊢
  funext i
  refine (scale_apply _ c4_pos _ i).trans ?_
  rw [h]
  unfold eW
  rfl
/-- Its inverse. -/
theorem scal5 : (dat0 W c).arrAt 5 cfg0.N = fun _ => p2 (-eW (arrW W c)) := by
  have h := maxW W c
  rw [arr0_5, iwOf_eq]
  generalize accW W c last0.val last0.isLt = v at h ⊢
  funext i
  refine (inv_apply _ c4_pos _ i).trans ?_
  rw [h]
  unfold eW
  rfl

end Cert.KernelIdeal.Hand
end
-- ==== Proof.Blocks.lean ====
/- What the second kernel computes at one point, at exact arithmetic: the codes of its rows and the product's entries, each read at an
   index. -/
module

public import proofs.«01_k».proof.Proof.KerScale

@[expose] public section

noncomputable section

namespace Cert.KernelIdeal.Hand

open Idealize.ShloMosaic hiding ix1 ix2 ix3 eq_ix2 eq_ix1 eq_ix3
open Idealize.ShloMosaic.ValueIdx Idealize.SL.Sem Cert.KernelIdeal Cert.KernelIdeal.Gen Cert.Scale
open Idealize.ShloMosaic.TcCoe

/-! ## The payloads -/

/-- Scaling by a number and clipping, read at an index. -/
theorem clip_apply {s : Shape} {φ : FTy} (x : FVec Ideal s .f32) (a : EReal) (lo hi : BitVec 32) (hφ : φ.bits < FTy.f32.bits) (p : s.Idx) :
    truncf φ (minimumf (broadcast s (Scalar.ofBits (F := Ideal) .f32 hi)) (maximumf (broadcast s (Scalar.ofBits .f32 lo))
      (mulf x (broadcast s a)))) hφ p = min (Ideal.ofBits .f32 hi) (max (Ideal.ofBits .f32 lo) (x p * a)) := rfl

/-- The codes of `dy`. -/
theorem pay1_apply (x : Vec Ideal S4096x1024 .bf16) (a : EReal) (p : S4096x1024.Idx) : k1_pay1 (F := Ideal) x a p = clipDy (x p) a := by
  unfold k1_pay1
  rw [shapeCast_self]
  exact clip_apply (φ := .fp8e5m2) (extf .f32 x bitsLt_bf16_f32) a _ _ bitsLt_fp8e5m2_f32 p

/-- The codes of `w`. -/
theorem pay2_apply' (y : Vec Ideal S512x1024 .f32) (a : EReal) (p : S512x1024.Idx) : k1_pay2 (F := Ideal) y a p = clipW (y p) a := by
  unfold k1_pay2
  exact clip_apply (φ := .fp8e4m3) y a _ _ bitsLt_fp8e4m3_f32 p

/-- A product scaled by a number, its rows split in eights, read at an index. -/
theorem tile_apply {A B M K N : ℕ} {φ φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (r : FVec Ideal ⟨2, ![N, K]⟩ φ₂) (a : EReal) (h : (⟨2, ![M, N]⟩ : Shape).ShapeCasts ⟨3, ![A, B, N]⟩)
    (hφ : φ.bits < FTy.f32.bits) (p : (⟨3, ![A, B, N]⟩ : Shape).Idx) (i : Fin M) (hi : i.val = (p 0).val * B + (p 1).val) :
    truncf φ (shapeCast ⟨3, ![A, B, N]⟩ (mulf (matmul d none l r (constant _ .f32 0x00000000#32)) (broadcast _ a)) h) hφ p
      = (∑ k : Fin K, l (ix2 i k) * r (ix2 (p 2) k)) * a := by
  have e : shapeCast ⟨3, ![A, B, N]⟩ (mulf (matmul d none l r (constant _ .f32 0x00000000#32)) (broadcast _ a)) h p
      = mulf (matmul d none l r (constant _ .f32 0x00000000#32)) (broadcast _ a) (ix2 i (p 2)) := by
    refine shapeCast_apply _ h p (ix2 i (p 2)) ?_
    rw [Shape.rowMajor_val_two, Shape.rowMajor_val_three]
    show i.val * N + (p 2).val = ((p 0).val * B + (p 1).val) * N + (p 2).val
    rw [hi]
  refine e.trans ?_
  exact congrArg (· * a) (dot_apply d hd l r i (p 2))

/-- One stored block of the product. -/
theorem pay8_apply (s : EReal) (q : Vec Ideal S512x1024 .fp8e5m2) (wq : Vec Ideal S512x1024 .fp8e4m3) (p : S64x8x512.Idx) (i : Fin 512)
    (hi : i.val = (p 0).val * 8 + (p 1).val) :
    k1_pay8 (F := Ideal) s q wq p = (∑ k : Fin 1024, q (ix2 i k) * wq (ix2 (p 2) k)) * s := by
  unfold k1_pay8
  rw [shapeCast_self, shapeCast_self]
  exact tile_apply (φ := .bf16) _ rfl q wq s shapeCasts_S512x512_S64x8x512 bitsLt_bf16_f32 p i hi

/-- Rows of the codes of `dy`. -/
theorem dyRows_apply (q : Vec Ideal S4096x1024 .fp8e5m2) (o : ℕ) (h : ∀ a, (![o, 0] : Fin 2 → ℕ) a + S512x1024.size a ≤ S4096x1024.size a)
    (i : Fin 512) (k : Fin 1024) (r : Fin 4096) (hr : r.val = o + i.val) : dyRows q o h (ix2 i k) = q (ix2 r k) := by
  refine congrArg q (funext fun a => Fin.ext ?_)
  fin_cases a
  · show o + 1 * i.val = r.val; omega
  · show 0 + 1 * k.val = k.val; omega

/-- The product's entry a block of the output holds at an index. -/
def entry (s : EReal) (q : Vec Ideal S4096x1024 .fp8e5m2) (wq : Vec Ideal S512x1024 .fp8e4m3) (y : S512x8x512.Idx) : EReal :=
  (∑ k : Fin 1024, q (ix2 ⟨(y 0).val * 8 + (y 1).val, by
    have h0 : (y 0).val < 512 := (y 0).isLt
    have h1 : (y 1).val < 8 := (y 1).isLt
    omega⟩ k) * wq (ix2 (y 2) k)) * s

/-- One stored block agrees with the entries. -/
theorem piece_apply (s : EReal) (q : Vec Ideal S4096x1024 .fp8e5m2) (wq : Vec Ideal S512x1024 .fp8e4m3) (o o' : ℕ)
    (h : ∀ a, (![o, 0] : Fin 2 → ℕ) a + S512x1024.size a ≤ S4096x1024.size a) (ho : o = o' * 8)
    (h' : ∀ a, (![o', 0, 0] : Fin 3 → ℕ) a + S64x8x512.size a ≤ S512x8x512.size a) (x : S64x8x512.Idx) :
    k1_pay8 (F := Ideal) s (dyRows q o h) wq x = entry s q wq ((Rect.unit (s := S512x8x512) ![o', 0, 0] S64x8x512.size h').emb x) := by
  have h0 : (x 0).val < 64 := (x 0).isLt
  have h1 : (x 1).val < 8 := (x 1).isLt
  rw [pay8_apply s (dyRows q o h) wq x ⟨(x 0).val * 8 + (x 1).val, by omega⟩ rfl]
  unfold entry
  refine congrArg (· * s) (Finset.sum_congr rfl fun k _ => congrArg₂ (· * ·) ?_ (congrArg wq ?_))
  · refine dyRows_apply q o h _ k _ ?_
    show (o' + 1 * (x 0).val) * 8 + (0 + 1 * (x 1).val) = o + ((x 0).val * 8 + (x 1).val)
    omega
  · refine congrArg (fun j => ix2 j k) (Fin.ext ?_)
    show (x 2).val = 0 + 1 * (x 2).val
    omega

/-- The block of the product the body leaves, read at an index. -/
theorem dxOf_apply (s : EReal) (q : Vec Ideal S4096x1024 .fp8e5m2) (wq : Vec Ideal S512x1024 .fp8e4m3) (y : S512x8x512.Idx) :
    dxOf (F := Ideal) s q wq y = entry s q wq y := by
  refine View.canon_apply_of_pieces (Val := Elt Ideal) (e := .bf16) (entry s q wq) _ ?_ y (dxPieces_cover s (dyRows q) wq y)
  unfold dxPieces
  simp only [List.forall_mem_cons]
  exact ⟨fun x => piece_apply s q wq 3584 448 _ rfl _ x, fun x => piece_apply s q wq 3072 384 _ rfl _ x,
    fun x => piece_apply s q wq 2560 320 _ rfl _ x, fun x => piece_apply s q wq 2048 256 _ rfl _ x,
    fun x => piece_apply s q wq 1536 192 _ rfl _ x, fun x => piece_apply s q wq 1024 128 _ rfl _ x,
    fun x => piece_apply s q wq 512 64 _ rfl _ x, fun x => piece_apply s q wq 0 0 _ rfl _ x,
    fun _ h => absurd h List.not_mem_nil⟩

/-! ## The point's blocks -/

variable (W : Dev nD → Valuation τ sig (Elt Ideal)) (c : Dev nD)

/-- The point's rows of `w`. -/
theorem index1_5 : ∀ t : Fin cfg1.N, win1_5.index t = ![t.val, 0] := by decide +kernel
/-- How much of them lies in the array. -/
theorem xsize1_5 : ∀ t : Fin cfg1.N, win1_5.xsize (grid1.coords t) = ![min 512 (9344 - t.val * 512), 1024] := by decide +kernel

/-- The scalar of the first window. -/
theorem one1_0 (t : Fin cfg1.N) (s : EReal) (h : W c (main_v1_0 : DevRef τ sig) = (fun _ => s : S1x1.Idx → EReal)) : one (iblk1 W c 0 t) = s := by
  unfold one iblk1
  blk_simp
  rw [h]
/-- The scalar of the second window. -/
theorem one1_1 (t : Fin cfg1.N) (s : EReal) (h : W c (main_v1_1 : DevRef τ sig) = (fun _ => s : S1x1.Idx → EReal)) : one (iblk1 W c 1 t) = s := by
  unfold one iblk1
  blk_simp
  rw [h]
/-- The scalar of the third window. -/
theorem one1_2 (t : Fin cfg1.N) (s : EReal) (h : W c (main_v1_2 : DevRef τ sig) = (fun _ => s : S1x1.Idx → EReal)) : one (iblk1 W c 2 t) = s := by
  unfold one iblk1
  blk_simp
  rw [h]
/-- The scalar of the fourth window. -/
theorem one1_3 (t : Fin cfg1.N) (s : EReal) (h : W c (main_v1_3 : DevRef τ sig) = (fun _ => s : S1x1.Idx → EReal)) : one (iblk1 W c 3 t) = s := by
  unfold one iblk1
  blk_simp
  rw [h]

/-- The whole of `dy` is fetched. -/
theorem iblk1_4_apply (t : Fin cfg1.N) (p : S4096x1024.Idx) : iblk1 W c 4 t p = arrDy W c p := by
  have e : ∀ t : Fin cfg1.N, win1_4.index t = ![0, 0] := by decide +kernel
  unfold iblk1
  blk_simp
  refine congrArg (arrDy W c) ?_
  blk_ext [e]

/-- A row of `w` inside the array, as the body finds it. -/
theorem wFill_apply (t : Fin cfg1.N) (d : Vec Ideal S512x1024 .f32) (p : S512x1024.Idx) (r : Fin 9344) (hr : r.val = t.val * 512 + (p 0).val) :
    wFill W c t d p = arrW W c (ix2 r (p 1)) := by
  have h0 : (p 0).val < 512 := (p 0).isLt
  have h1 : (p 1).val < 1024 := (p 1).isLt
  have hx := xsize1_5 t
  have hm : ∀ a, (p a).val < win1_5.xsize (grid1.coords t) a := by
    rw [hx]
    intro a
    fin_cases a
    · show (p 0).val < min 512 (9344 - t.val * 512); have := r.isLt; omega
    · show (p 1).val < 1024; omega
  unfold wFill
  refine ((cfg1.win 5).fill_xinj (cfg1.grid.coords t) d (iblk1 W c 5 t) (fun a => ⟨(p a).val, hm a⟩)).trans ?_
  unfold iblk1
  blk_simp
  refine congrArg (arrW W c) ?_
  blk_ext [index1_5]
  all_goals first | rfl | exact hr.symm

variable (s0 s1 s2 s3 : EReal) (h0 : W c (main_v1_0 : DevRef τ sig) = (fun _ => s0 : S1x1.Idx → EReal))
  (h1 : W c (main_v1_1 : DevRef τ sig) = (fun _ => s1 : S1x1.Idx → EReal)) (h2 : W c (main_v1_2 : DevRef τ sig) = (fun _ => s2 : S1x1.Idx → EReal))
  (h3 : W c (main_v1_3 : DevRef τ sig) = (fun _ => s3 : S1x1.Idx → EReal))

include h1 in
/-- The codes of `dy` the kernel holds. -/
theorem dyqOf_apply (p : S4096x1024.Idx) : dyqOf W c p = clipDy (arrDy W c p) s1 := by
  unfold dyqOf
  rw [one1_1 W c first1 s1 h1, pay1_apply, iblk1_4_apply]

include h3 in
/-- The codes of a row of `w` inside the array. -/
theorem wqFill_apply (t : Fin cfg1.N) (d : Vec Ideal S512x1024 .f32) (p : S512x1024.Idx) (r : Fin 9344) (hr : r.val = t.val * 512 + (p 0).val) :
    wqFill W c t d p = clipW (arrW W c (ix2 r (p 1))) s3 := by
  unfold wqFill
  rw [one1_3 W c t s3 h3, pay2_apply', wFill_apply W c t d p r hr]

include h0 h1 h2 h3 in
/-- The product's entry in a column inside the array. -/
theorem dxFill_apply (t : Fin cfg1.N) (d : Vec Ideal S512x1024 .f32) (p : S512x8x512.Idx) (i : Fin 4096) (hi : i.val = (p 0).val * 8 + (p 1).val)
    (r : Fin 9344) (hr : r.val = t.val * 512 + (p 2).val) :
    dxFill W c t d p = (∑ k : Fin 1024, clipDy (arrDy W c (ix2 i k)) s1 * clipW (arrW W c (ix2 r k)) s3) * (s0 * s2) := by
  unfold dxFill
  rw [dxOf_apply, one1_0 W c t s0 h0, one1_2 W c t s2 h2]
  unfold entry
  refine congrArg₂ (· * ·) (Finset.sum_congr rfl fun k _ => congrArg₂ (· * ·) ?_ ?_) rfl
  · rw [dyqOf_apply W c s1 h1]
    exact congrArg (fun j => clipDy (arrDy W c (ix2 j k)) s1) (Fin.ext hi.symm)
  · exact wqFill_apply W c s3 h3 t d (ix2 (p 2) k) r hr

end Cert.KernelIdeal.Hand
end
-- ==== Proof.KerValue.lean ====
/- What the kernels leave in the result arrays at exact arithmetic: the codes of `dy`, the codes of `w` and the product, as functions of
   the two arguments. -/
module

public import proofs.«01_k».proof.Proof.Blocks
public import Idealize.ShloMosaic.Lib.Pipeline.ArrRel

@[expose] public section

noncomputable section

namespace Cert.KernelIdeal.Hand

open Idealize.ShloMosaic hiding ix1 ix2 ix3 eq_ix2 eq_ix1 eq_ix3
open Idealize.ShloMosaic.ValueIdx Idealize.SL.Sem Cert.KernelIdeal Cert.KernelIdeal.Gen Cert.Scale
open Idealize.ShloMosaic.TcCoe
open Idealize.ShloMosaic.Pipeline (Dat RDat Cfg Window)

variable (W : Dev nD → Valuation τ sig (Elt Ideal)) (c : Dev nD)

/-- If whatever the body may leave at any point agrees with one array, and the blocks cover it, the output is that array. -/
theorem arr_eq (w : Fin cfg1.W) (G T : Buf (Elt Ideal) ((cfg1.win w).arr.view.loc (c.tc : Thread nD τ))) (hG : (rdat1 W c).ArrAt w cfg1.N G)
    (hcov : (cfg1.win w).Covers) (harr : (cfg1.win w).arr.IsWhole)
    (h : ∀ u X, (rdat1 W c).Leaves w u X → ∀ y : ((cfg1.win w).xblock (cfg1.grid.coords u)).Idx,
      _root_.cast (congrArg (Elt Ideal) ((cfg1.win w).blk u).view.elt_eq.symm) (X ((cfg1.win w).xinj (cfg1.grid.coords u) y))
        = T (((cfg1.win w).blk u).view.emb y)) : G = T := by
  obtain ⟨X, hX, hA⟩ := hG.exists_exact
  have e := hA (Function.update (fun _ _ _ => Classical.arbitrary _) w X) fun u _ _ => by rw [Function.update_self]
  rw [e]
  refine Dat.arrAt_eq_of_covers _ w T hcov (fun t ht y => ?_) harr
  rw [RDat.withAfter_after, Function.update_self]
  exact h t (X t) (hX t t.isLt ht) y

variable (s0 s1 s2 s3 : EReal) (h0 : W c (main_v1_0 : DevRef τ sig) = (fun _ => s0 : S1x1.Idx → EReal))
  (h1 : W c (main_v1_1 : DevRef τ sig) = (fun _ => s1 : S1x1.Idx → EReal)) (h2 : W c (main_v1_2 : DevRef τ sig) = (fun _ => s2 : S1x1.Idx → EReal))
  (h3 : W c (main_v1_3 : DevRef τ sig) = (fun _ => s3 : S1x1.Idx → EReal))

include h1 in
/-- The codes of `dy` the kernel leaves. -/
theorem arr1_7 (G : Buf (Elt Ideal) ((cfg1.win 7).arr.view.loc (c.tc : Thread nD τ))) (hG : (rdat1 W c).ArrAt 7 cfg1.N G) :
    G = (fun p => clipDy (arrDy W c p) s1 : S4096x1024.Idx → EReal) := by
  have e : ∀ t : Fin cfg1.N, win1_7.index t = ![0, 0] := by decide +kernel
  refine arr_eq W c 7 G _ hG (by decide +kernel) (Memref.isWhole_whole _) fun u X hl y => ?_
  obtain rfl : X = dyqOf W c := (dat1 W c).toRRel_leaves (fgt := fg1) (Rl := Rl1 W c) (w := 7) rfl hl
  blk_simp
  rw [dyqOf_apply W c s1 h1]
  refine congrArg (fun q => clipDy (arrDy W c q) s1) ?_
  blk_ext [e]

/-- Where a block of the codes of `w` lies. -/
theorem index1_8 : ∀ t : Fin cfg1.N, win1_8.index t = ![t.val, 0] := by decide +kernel
/-- Where a block of the product lies. -/
theorem index1_6 : ∀ t : Fin cfg1.N, win1_6.index t = ![0, 0, t.val] := by decide +kernel
/-- The row of an index of a block of the codes of `w`. -/
theorem emb1_8_0 (u : Fin cfg1.N) (y : ((cfg1.win 8).xblock (cfg1.grid.coords u)).Idx) :
    (((cfg1.win 8).blk u).view.emb y (0 : Fin 2)).val = u.val * 512 + (y (0 : Fin 2)).val := by
  blk_simp [index1_8]
/-- Its column. -/
theorem emb1_8_1 (u : Fin cfg1.N) (y : ((cfg1.win 8).xblock (cfg1.grid.coords u)).Idx) :
    (((cfg1.win 8).blk u).view.emb y (1 : Fin 2)).val = (y (1 : Fin 2)).val := by
  blk_simp [index1_8]
/-- The first coordinate of an index of a block of the product. -/
theorem emb1_6_0 (u : Fin cfg1.N) (y : ((cfg1.win 6).xblock (cfg1.grid.coords u)).Idx) :
    (((cfg1.win 6).blk u).view.emb y (0 : Fin 3)).val = (y (0 : Fin 3)).val := by
  blk_simp [index1_6]
/-- The second. -/
theorem emb1_6_1 (u : Fin cfg1.N) (y : ((cfg1.win 6).xblock (cfg1.grid.coords u)).Idx) :
    (((cfg1.win 6).blk u).view.emb y (1 : Fin 3)).val = (y (1 : Fin 3)).val := by
  blk_simp [index1_6]
/-- The third: the product's column. -/
theorem emb1_6_2 (u : Fin cfg1.N) (y : ((cfg1.win 6).xblock (cfg1.grid.coords u)).Idx) :
    (((cfg1.win 6).blk u).view.emb y (2 : Fin 3)).val = u.val * 512 + (y (2 : Fin 3)).val := by
  blk_simp [index1_6]

include h3 in
/-- The codes of `w` the kernel leaves. -/
theorem arr1_8 (G : Buf (Elt Ideal) ((cfg1.win 8).arr.view.loc (c.tc : Thread nD τ))) (hG : (rdat1 W c).ArrAt 8 cfg1.N G)
    (T : S9344x1024.Idx → EReal) (hT : ∀ p, T p = clipW (arrW W c p) s3) : G = T := by
  refine arr_eq W c 8 G T hG (by decide +kernel) (Memref.isWhole_whole _) fun u X hl y => ?_
  obtain ⟨d, rfl⟩ : ∃ d, X = wqFill W c u d := (dat1 W c).toRRel_leaves (fgt := fg1) (Rl := Rl1 W c) (w := 8) rfl hl
  have h0 := emb1_8_0 u y
  have h1 := emb1_8_1 u y
  generalize ((cfg1.win 8).blk u).view.emb y = q at h0 h1 ⊢
  refine eq_of_heq ((cast_heq _ _).trans (heq_of_eq ?_))
  refine (wqFill_apply W c s3 h3 u d ((cfg1.win 8).xinj (cfg1.grid.coords u) y) (q (0 : Fin 2)) h0).trans ?_
  refine Eq.trans ?_ (hT q).symm
  refine congrArg (fun q => clipW (arrW W c q) s3) ?_
  funext a
  apply Fin.ext
  fin_cases a
  · rfl
  · exact h1.symm

include h0 h1 h2 h3 in
/-- The product the kernel leaves, its rows split in eights. -/
theorem arr1_6 (G : Buf (Elt Ideal) ((cfg1.win 6).arr.view.loc (c.tc : Thread nD τ))) (hG : (rdat1 W c).ArrAt 6 cfg1.N G)
    (T : S512x8x9344.Idx → EReal)
    (hT : ∀ (p : S512x8x9344.Idx) (i : Fin 4096), i.val = (p 0).val * 8 + (p 1).val →
      T p = (∑ k : Fin 1024, clipDy (arrDy W c (ix2 i k)) s1 * clipW (arrW W c (ix2 (p 2) k)) s3) * (s0 * s2)) : G = T := by
  refine arr_eq W c 6 G T hG (by decide +kernel) (Memref.isWhole_whole _) fun u X hl y => ?_
  obtain ⟨d, rfl⟩ : ∃ d, X = dxFill W c u d := (dat1 W c).toRRel_leaves (fgt := fg1) (Rl := Rl1 W c) (w := 6) rfl hl
  have e0 := emb1_6_0 u y
  have e1 := emb1_6_1 u y
  have e2 := emb1_6_2 u y
  generalize ((cfg1.win 6).blk u).view.emb y = q at e0 e1 e2 ⊢
  have l0 : (q (0 : Fin 3)).val < 512 := (q (0 : Fin 3)).isLt
  have l1 : (q (1 : Fin 3)).val < 8 := (q (1 : Fin 3)).isLt
  refine eq_of_heq ((cast_heq _ _).trans (heq_of_eq ?_))
  refine Eq.trans ?_ (hT q ⟨(q (0 : Fin 3)).val * 8 + (q (1 : Fin 3)).val, by omega⟩ rfl).symm
  exact dxFill_apply W c s0 s1 s2 s3 h0 h1 h2 h3 u d ((cfg1.win 6).xinj (cfg1.grid.coords u) y) _
    (congrArg₂ (fun a b => a * 8 + b) e0 e1) (q (2 : Fin 3)) e2

end Cert.KernelIdeal.Hand
end
-- ==== Proof.RefValue.lean ====
/- What the reference leaves in its results: its one block is the whole of every array, so each result array holds what the body
   computed from the two arguments. -/
module

public import proofs.«01_k».proof.Proof.Target
public import Idealize.ShloMosaic.Lib.Pipeline.ValueKit

@[expose] public section

noncomputable section

namespace Cert.ReferenceIdeal.Hand

open Idealize.ShloMosaic Idealize.SL.Sem Cert.ReferenceIdeal Cert.ReferenceIdeal.Gen Cert.Scale
open Idealize.ShloMosaic.TcCoe

variable {F : FTy → Type} [FloatOps F]
variable (m : (ℓ : Loc nD τ sig) → Buf (Elt F) ℓ) (c : Dev nD)

/-- The fetched block of `dy` is the array. -/
theorem iblk_dy (t : Fin cfg0.N) : iblk m c 0 t = V m c main_v0 := by
  obtain rfl : t = t0_0 := (by decide : ∀ t : Fin cfg0.N, t = t0_0) t
  have h : (fun a => (win0_0.index t0_0) a * main_v0.ty.shape.size a) = fun _ => 0 := funext fun a => by fin_cases a <;> decide
  unfold iblk
  exact Memref.read_access_unit_zero (Elt F) main_v0 h (fun a => by fin_cases a <;> decide) _

/-- The fetched block of `w` is the array. -/
theorem iblk_w (t : Fin cfg0.N) : iblk m c 1 t = V m c main_arg1 := by
  obtain rfl : t = t0_0 := (by decide : ∀ t : Fin cfg0.N, t = t0_0) t
  have h : (fun a => (win0_1.index t0_0) a * main_arg1.ty.shape.size a) = fun _ => 0 := funext fun a => by fin_cases a <;> decide
  unfold iblk
  exact Memref.read_access_unit_zero (Elt F) main_arg1 h (fun a => by fin_cases a <;> decide) _

/-- The first result array: the product. -/
theorem arr2 : (dats m 0 c).arrAt 2 cfg0.N = out0_2 (V m c main_v0) (V m c main_arg1) := by
  refine (dats m 0 c).arrAt_eq_of_after_last 2 t0_0 (by decide +kernel) _ fun j => ?_
  rw [after0_2, iblk_dy, iblk_w]
  generalize out0_2 (V m c main_v0) (V m c main_arg1) = G
  rfl
/-- The second result array: the codes of `dy`. -/
theorem arr3 : (dats m 0 c).arrAt 3 cfg0.N = out0_3 (V m c main_v0) (V m c main_arg1) := by
  refine (dats m 0 c).arrAt_eq_of_after_last 3 t0_0 (by decide +kernel) _ fun j => ?_
  rw [after0_3, iblk_dy, iblk_w]
  generalize out0_3 (V m c main_v0) (V m c main_arg1) = G
  rfl
/-- The third result array: the scale of `dy`. -/
theorem arr4 : (dats m 0 c).arrAt 4 cfg0.N = out0_4 (V m c main_v0) (V m c main_arg1) := by
  refine (dats m 0 c).arrAt_eq_of_after_last 4 t0_0 (by decide +kernel) _ fun j => ?_
  rw [after0_4, iblk_dy, iblk_w]
  generalize out0_4 (V m c main_v0) (V m c main_arg1) = G
  rfl
/-- The fourth result array: the codes of `w`. -/
theorem arr5 : (dats m 0 c).arrAt 5 cfg0.N = out0_5 (V m c main_v0) (V m c main_arg1) := by
  refine (dats m 0 c).arrAt_eq_of_after_last 5 t0_0 (by decide +kernel) _ fun j => ?_
  rw [after0_5, iblk_dy, iblk_w]
  generalize out0_5 (V m c main_v0) (V m c main_arg1) = G
  rfl
/-- The fifth result array: the scale of `w`. -/
theorem arr6 : (dats m 0 c).arrAt 6 cfg0.N = out0_6 (V m c main_v0) (V m c main_arg1) := by
  refine (dats m 0 c).arrAt_eq_of_after_last 6 t0_0 (by decide +kernel) _ fun j => ?_
  rw [after0_6, iblk_dy, iblk_w]
  generalize out0_6 (V m c main_v0) (V m c main_arg1) = G
  rfl

/-- `dy`, one row per token. -/
theorem V_v0 : V m c main_v0 = shapeCast S4096x1024 (m ((c : Thread nD τ).loc main_arg0)) shapeCasts_S4x1024x1024_S4096x1024 := by
  show StableHlo.after (List.flatten [hostOps0]) (fun b => m (c, b)) (main_v0 : DevRef τ sig) = _
  simp only [List.flatten_cons, List.flatten_nil, List.append_nil]
  unfold hostOps0
  after_results
  rfl

variable (W : Valuation τ sig (Elt F))

/-- The product, reshaped. -/
theorem tail_v2 : StableHlo.after (List.flatten [hostOps1]) W (main_v2 : DevRef τ sig)
    = shapeCast S4x1024x9344 (W (main_v1_0 : DevRef τ sig)) shapeCasts_S4096x9344_S4x1024x9344 := by
  simp only [List.flatten_cons, List.flatten_nil, List.append_nil]
  unfold hostOps1
  after_results
  rfl
/-- The codes of `dy`, reshaped. -/
theorem tail_v3 : StableHlo.after (List.flatten [hostOps1]) W (main_v3 : DevRef τ sig)
    = shapeCast S4x1024x1024 (W (main_v1_1 : DevRef τ sig)) shapeCasts_S4096x1024_S4x1024x1024 := by
  simp only [List.flatten_cons, List.flatten_nil, List.append_nil]
  unfold hostOps1
  after_results
  rfl
/-- The scale of `dy`, reshaped. -/
theorem tail_v4 : StableHlo.after (List.flatten [hostOps1]) W (main_v4 : DevRef τ sig)
    = shapeCast S_ (W (main_v1_2 : DevRef τ sig)) shapeCasts_S1x1_S_ := by
  simp only [List.flatten_cons, List.flatten_nil, List.append_nil]
  unfold hostOps1
  after_results
  rfl
/-- The scale of `w`, reshaped. -/
theorem tail_v5 : StableHlo.after (List.flatten [hostOps1]) W (main_v5 : DevRef τ sig)
    = shapeCast S_ (W (main_v1_4 : DevRef τ sig)) shapeCasts_S1x1_S_ := by
  simp only [List.flatten_cons, List.flatten_nil, List.append_nil]
  unfold hostOps1
  after_results
  rfl

end Cert.ReferenceIdeal.Hand
end
-- ==== Proof.RefRun.lean ====
/- The five results as functions of the two arguments, and the reference's run: it ends with them. -/
module

public import proofs.«01_k».proof.Proof.RefValue

@[expose] public section

noncomputable section

namespace Cert.Scale

open Idealize.ShloMosaic Cert.ReferenceIdeal Cert.ReferenceIdeal.Gen

/-- `dy`, one row per token. -/
def flat (A : S4x1024x1024.Idx → EReal) : S4096x1024.Idx → EReal := shapeCast S4096x1024 A shapeCasts_S4x1024x1024_S4096x1024
/-- The product. -/
def resDx (A : S4x1024x1024.Idx → EReal) (Y : S9344x1024.Idx → EReal) : S4x1024x9344.Idx → EReal :=
  shapeCast S4x1024x9344 (tDx (flat A) Y) shapeCasts_S4096x9344_S4x1024x9344
/-- The codes of `dy`. -/
def resDyq (A : S4x1024x1024.Idx → EReal) : S4x1024x1024.Idx → EReal :=
  shapeCast S4x1024x1024 (tDyq (flat A)) shapeCasts_S4096x1024_S4x1024x1024
/-- The scale of `dy`. -/
def resSdy (A : S4x1024x1024.Idx → EReal) : S_.Idx → EReal :=
  shapeCast S_ (fun _ : S1x1.Idx => p2 (eDy (flat A))) shapeCasts_S1x1_S_
/-- The scale of `w`. -/
def resSw (Y : S9344x1024.Idx → EReal) : S_.Idx → EReal :=
  shapeCast S_ (fun _ : S1x1.Idx => p2 (eW Y)) shapeCasts_S1x1_S_

end Cert.Scale

namespace Cert.ReferenceIdeal.Hand

open Idealize.ShloMosaic Idealize.SL.Sem Cert.ReferenceIdeal Cert.ReferenceIdeal.Gen Cert.Scale
open Idealize.ShloMosaic.TcCoe

section Tail

variable {F : FTy → Type} [FloatOps F]
variable (m : (ℓ : Loc nD τ sig) → Buf (Elt F) ℓ) (c : Dev nD)

/-- The contents after the region. -/
abbrev Wr : Valuation τ sig (Elt F) := Pipeline.withArrays spec0 c (V0 m c) fun w => (dats m 0 c).arrAt w cfg0.N

/-- The windows' arrays are different buffers. -/
theorem arr_inj : Function.Injective (Pipeline.arrRef spec0) := by decide

/-- What the region leaves in the product's array. -/
theorem Wr_v1_0 : Wr m c (main_v1_0 : DevRef τ sig) = out0_2 (V m c main_v0) (V m c main_arg1) :=
  (Pipeline.withArrays_arr spec0 arr_inj c _ _ 2).trans (arr2 m c)
/-- What the region leaves in the array of the codes of `dy`. -/
theorem Wr_v1_1 : Wr m c (main_v1_1 : DevRef τ sig) = out0_3 (V m c main_v0) (V m c main_arg1) :=
  (Pipeline.withArrays_arr spec0 arr_inj c _ _ 3).trans (arr3 m c)
/-- What the region leaves in the array of the scale of `dy`. -/
theorem Wr_v1_2 : Wr m c (main_v1_2 : DevRef τ sig) = out0_4 (V m c main_v0) (V m c main_arg1) :=
  (Pipeline.withArrays_arr spec0 arr_inj c _ _ 4).trans (arr4 m c)
/-- What the region leaves in the array of the scale of `w`. -/
theorem Wr_v1_4 : Wr m c (main_v1_4 : DevRef τ sig) = out0_6 (V m c main_v0) (V m c main_arg1) :=
  (Pipeline.withArrays_arr spec0 arr_inj c _ _ 6).trans (arr6 m c)

end Tail

variable (m : (ℓ : Loc nD τ sig) → Buf (Elt Ideal) ℓ) (ρ : Dev nD → PrngReg) (c : Dev nD)

/-- The first argument. -/
abbrev argDy : S4x1024x1024.Idx → EReal := m ((c : Thread nD τ).loc main_arg0)
/-- The second argument. -/
abbrev argW : S9344x1024.Idx → EReal := m ((c : Thread nD τ).loc main_arg1)

/-- The product the reference ends with. -/
theorem end_v2 : Pipeline.afterTail₀ cfgs (dats m) 0 (V0 m) [hostOps1] c main_v2 = resDx (argDy m c) (argW m c) := by
  refine (tail_v2 (Wr m c)).trans ?_
  rw [Wr_v1_0, V_v0, V_main_arg1, refOut2]; rfl
/-- The codes of `dy` the reference ends with. -/
theorem end_v3 : Pipeline.afterTail₀ cfgs (dats m) 0 (V0 m) [hostOps1] c main_v3 = resDyq (argDy m c) := by
  refine (tail_v3 (Wr m c)).trans ?_
  rw [Wr_v1_1, V_v0, V_main_arg1, refOut3]; rfl
/-- The scale of `dy` the reference ends with. -/
theorem end_v4 : Pipeline.afterTail₀ cfgs (dats m) 0 (V0 m) [hostOps1] c main_v4 = resSdy (argDy m c) := by
  refine (tail_v4 (Wr m c)).trans ?_
  rw [Wr_v1_2, V_v0, V_main_arg1, refOut4]; rfl
/-- The scale of `w` the reference ends with. -/
theorem end_v5 : Pipeline.afterTail₀ cfgs (dats m) 0 (V0 m) [hostOps1] c main_v5 = resSw (argW m c) := by
  refine (tail_v5 (Wr m c)).trans ?_
  rw [Wr_v1_4, V_v0, V_main_arg1, refOut6]; rfl
/-- The codes of `w` the reference ends with. -/
theorem end_v1_3 : (dats m 0 c).arrAt 5 cfg0.N = tWq (argW m c) := by
  rw [arr5, V_main_arg1, refOut5]

/-- The reference ends with the five results, its arguments unchanged. -/
theorem run : θ_run defs (onTc (τ := τ) (main (F := Ideal))) ⟨m, fun _ => 0, ρ⟩ (fun r => ∀ c : Dev nD,
      r.2.mem ((c.tc : Thread nD τ).loc main_v2) = resDx (argDy m c) (argW m c)
      ∧ r.2.mem ((c.tc : Thread nD τ).loc main_v3) = resDyq (argDy m c)
      ∧ r.2.mem ((c.tc : Thread nD τ).loc main_v4) = resSdy (argDy m c)
      ∧ r.2.mem ((c.tc : Thread nD τ).loc main_v1_3) = tWq (argW m c)
      ∧ r.2.mem ((c.tc : Thread nD τ).loc main_v5) = resSw (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h.1.rest_eq c main_v2 (by decide)).trans (end_v2 m c), (h.1.rest_eq c main_v3 (by decide)).trans (end_v3 m c),
      (h.1.rest_eq c main_v4 (by decide)).trans (end_v4 m c), (h.1.out_eq c 5).trans (end_v1_3 m c),
      (h.1.rest_eq c main_v5 (by decide)).trans (end_v5 m c), h.2 c⟩) (θ_run_and (run_main m ρ) (unchanged m ρ))

end Cert.ReferenceIdeal.Hand
end
-- ==== Proof.KerRun.lean ====
/- The kernel's run at exact arithmetic: it ends with the five results. -/
module

public import proofs.«01_k».proof.Proof.KerValue
public import proofs.«01_k».proof.Proof.RefRun

@[expose] public section

noncomputable section

namespace Cert.KernelIdeal.Hand

open Idealize.ShloMosaic hiding ix1 ix2 ix3 eq_ix2 eq_ix1 eq_ix3
open Idealize.ShloMosaic.ValueIdx Idealize.SL.Sem Cert.KernelIdeal Cert.KernelIdeal.Gen Cert.Scale
open Idealize.ShloMosaic.TcCoe

/-! ## The host's lines -/

section Host

variable {F : FTy → Type} [FloatOps F] (W : Valuation τ sig (Elt F))

/-- `dy`, one row per token. -/
theorem head_v0 : StableHlo.after hostOps0 W (main_v0 : DevRef τ sig)
    = shapeCast S4096x1024 (W (main_arg0 : DevRef τ sig)) shapeCasts_S4x1024x1024_S4096x1024 := by
  unfold hostOps0
  after_results
  rfl
/-- The product, reshaped. -/
theorem tail_v3 : StableHlo.after hostOps2 W (main_v3 : DevRef τ sig)
    = shapeCast S4x1024x9344 (W (main_v2_0 : DevRef τ sig)) shapeCasts_S512x8x9344_S4x1024x9344 := by
  unfold hostOps2
  after_results
  rfl
/-- The codes of `dy`, reshaped. -/
theorem tail_v4 : StableHlo.after hostOps2 W (main_v4 : DevRef τ sig)
    = shapeCast S4x1024x1024 (W (main_v2_1 : DevRef τ sig)) shapeCasts_S4096x1024_S4x1024x1024 := by
  unfold hostOps2
  after_results
  rfl
/-- The scale of `dy`, reshaped. -/
theorem tail_v5 : StableHlo.after hostOps2 W (main_v5 : DevRef τ sig)
    = shapeCast S_ (W (main_v1_0 : DevRef τ sig)) shapeCasts_S1x1_S_ := by
  unfold hostOps2
  after_results
  rfl
/-- The scale of `w`, reshaped. -/
theorem tail_v6 : StableHlo.after hostOps2 W (main_v6 : DevRef τ sig)
    = shapeCast S_ (W (main_v1_2 : DevRef τ sig)) shapeCasts_S1x1_S_ := by
  unfold hostOps2
  after_results
  rfl

end Host

/-- Reshaping twice is reshaping once. -/
theorem shapeCast_trans {s t u : Shape} {α : Type} (x : s.Idx → α) (h : s.ShapeCasts t) (h' : t.ShapeCasts u) (h'' : s.ShapeCasts u) :
    shapeCast u (shapeCast t x h) h' = shapeCast u x h'' :=
  funext fun i => congrArg x (by
    show Shape.reshapeEquiv _ (Shape.reshapeEquiv _ i) = _
    rw [Shape.reshapeEquiv_reshapeEquiv])

/-! ## What each buffer holds -/

variable (m : (ℓ : Loc nD τ sig) → Buf (Elt Ideal) ℓ) (ρ : Dev nD → PrngReg) (c : Dev nD)

/-- The first argument. -/
abbrev argDy : Cert.ReferenceIdeal.S4x1024x1024.Idx → EReal := m ((c : Thread nD τ).loc main_arg0)
/-- The second argument. -/
abbrev argW : Cert.ReferenceIdeal.S9344x1024.Idx → EReal := m ((c : Thread nD τ).loc main_arg1)

/-- The first kernel reads `dy`, one row per token; -/
theorem W1_dy : arrDy (W1 m) c = flat (argDy m c) := head_v0 _
/-- and `w`. -/
theorem W1_w : arrW (W1 m) c = argW m c := V1_of m c main_arg1 (by decide)
/-- The second kernel reads the same, -/
theorem W2_dy : arrDy (W2 m) c = flat (argDy m c) := (W2_of m c main_v0 (by decide)).trans (W1_dy m c)
/-- and `w`. -/
theorem W2_w : arrW (W2 m) c = argW m c := (W2_of m c main_arg1 (by decide)).trans (W1_w m c)

/-- The scale of `dy` the second kernel reads. -/
theorem W2_s0 : W2 m c (main_v1_0 : DevRef τ sig) = (fun _ => p2 (eDy (flat (argDy m c))) : S1x1.Idx → EReal) := by
  rw [W2_v1_0, ← W1_dy]; exact scal2 (W1 m) c
/-- Its inverse. -/
theorem W2_s1 : W2 m c (main_v1_1 : DevRef τ sig) = (fun _ => p2 (-eDy (flat (argDy m c))) : S1x1.Idx → EReal) := by
  rw [W2_v1_1, ← W1_dy]; exact scal3 (W1 m) c
/-- The scale of `w` the second kernel reads. -/
theorem W2_s2 : W2 m c (main_v1_2 : DevRef τ sig) = (fun _ => p2 (eW (argW m c)) : S1x1.Idx → EReal) := by
  rw [W2_v1_2, ← W1_w]; exact scal4 (W1 m) c
/-- Its inverse. -/
theorem W2_s3 : W2 m c (main_v1_3 : DevRef τ sig) = (fun _ => p2 (-eW (argW m c)) : S1x1.Idx → EReal) := by
  rw [W2_v1_3, ← W1_w]; exact scal5 (W1 m) c

variable (g : Left m c)

/-- The codes of `dy` after the second kernel. -/
theorem W3_dyq : W3 m c g (main_v2_1 : DevRef τ sig) = tDyq (flat (argDy m c)) := by
  rw [W3_v2_1]
  refine (arr1_7 (W2 m) c _ (W2_s1 m c) _ (g.2 7)).trans ?_
  rw [W2_dy]; rfl
/-- The codes of `w` after it. -/
theorem W3_wq : W3 m c g (main_v2_2 : DevRef τ sig) = tWq (argW m c) := by
  rw [W3_v2_2]
  refine arr1_8 (W2 m) c _ (W2_s3 m c) _ (g.2 8) _ fun p => ?_
  rw [W2_w]; rfl
/-- The two shapes of the product hold the same entries. -/
theorem casts : Cert.ReferenceIdeal.S4096x9344.ShapeCasts S512x8x9344 := by decide

/-- The product after it, its rows split in eights. -/
theorem W3_dx : W3 m c g (main_v2_0 : DevRef τ sig) = shapeCast S512x8x9344 (tDx (flat (argDy m c)) (argW m c)) casts := by
  rw [W3_v2_0]
  refine arr1_6 (W2 m) c _ _ _ _ (W2_s0 m c) (W2_s1 m c) (W2_s2 m c) (W2_s3 m c) _ (g.2 6) _ fun p i hi => ?_
  rw [W2_dy, W2_w]
  refine (shapeCast_apply _ casts p (ix2 i (p 2)) ?_).trans rfl
  rw [Shape.rowMajor_val_two, Shape.rowMajor_val_three]
  show i.val * 9344 + (p 2).val = ((p 0).val * 8 + (p 1).val) * 9344 + (p 2).val
  rw [hi]

/-- The product the kernel ends with. -/
theorem end_v3 : W4 m c g (main_v3 : DevRef τ sig) = resDx (argDy m c) (argW m c) := by
  refine (tail_v3 (W3 m c g)).trans ?_
  rw [W3_dx]
  exact shapeCast_trans _ _ _ _
/-- The codes of `dy` it ends with. -/
theorem end_v4 : W4 m c g (main_v4 : DevRef τ sig) = resDyq (argDy m c) := by
  refine (tail_v4 (W3 m c g)).trans ?_
  rw [W3_dyq]; rfl
/-- The scale of `dy` it ends with. -/
theorem end_v5 : W4 m c g (main_v5 : DevRef τ sig) = resSdy (argDy m c) := by
  refine (tail_v5 (W3 m c g)).trans ?_
  rw [W3_of m c g main_v1_0 (by decide), W2_s0]; rfl
/-- The scale of `w` it ends with. -/
theorem end_v6 : W4 m c g (main_v6 : DevRef τ sig) = resSw (argW m c) := by
  refine (tail_v6 (W3 m c g)).trans ?_
  rw [W3_of m c g main_v1_2 (by decide), W2_s2]; rfl
/-- The codes of `w` it ends with. -/
theorem end_v2_2 : W4 m c g (main_v2_2 : DevRef τ sig) = tWq (argW m c) :=
  (W4_of m c g main_v2_2 (by decide)).trans (W3_wq m c g)

/-- The kernel ends with the five results, its arguments unchanged. -/
theorem run : θ_run defs (onTc (τ := τ) (main (F := Ideal))) ⟨m, fun _ => 0, ρ⟩ (fun r => ∀ c : Dev nD,
      r.2.mem ((c.tc : Thread nD τ).loc main_v3) = resDx (argDy m c) (argW m c)
      ∧ r.2.mem ((c.tc : Thread nD τ).loc main_v4) = resDyq (argDy m c)
      ∧ r.2.mem ((c.tc : Thread nD τ).loc main_v5) = resSdy (argDy m c)
      ∧ r.2.mem ((c.tc : Thread nD τ).loc main_v2_2) = tWq (argW m c)
      ∧ r.2.mem ((c.tc : Thread nD τ).loc main_v6) = resSw (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => by
    obtain ⟨g, hg⟩ := h.1 c
    exact ⟨(hg main_v3 (Finset.mem_filter.mpr ⟨StableHlo.devRef_mem_tcRefs main_v3, by decide⟩)).trans (end_v3 m c g),
      (hg main_v4 (Finset.mem_filter.mpr ⟨StableHlo.devRef_mem_tcRefs main_v4, by decide⟩)).trans (end_v4 m c g),
      (hg main_v5 (Finset.mem_filter.mpr ⟨StableHlo.devRef_mem_tcRefs main_v5, by decide⟩)).trans (end_v5 m c g),
      (hg main_v2_2 (Finset.mem_filter.mpr ⟨StableHlo.devRef_mem_tcRefs main_v2_2, by decide⟩)).trans (end_v2_2 m c g),
      (hg main_v6 (Finset.mem_filter.mpr ⟨StableHlo.devRef_mem_tcRefs main_v6, by decide⟩)).trans (end_v6 m c g),
      (hg main_arg0 (Finset.mem_filter.mpr ⟨StableHlo.devRef_mem_tcRefs main_arg0, by decide⟩)).trans (W4_main_arg0 m c g),
      (hg main_arg1 (Finset.mem_filter.mpr ⟨StableHlo.devRef_mem_tcRefs main_arg1, by decide⟩)).trans (W4_main_arg1 m c g)⟩) (run_main m ρ)

end Cert.KernelIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Same
public import proofs.«01_k».proof.Proof.KerRun
public import Idealize.ShloMosaic.Adequacy
public import Idealize.ShloMosaic.Init

@[expose] public section

noncomputable section

namespace Cert.Proof

open Idealize.ShloMosaic Idealize.SL.Sem Cert.Kernel

/-- From the same arguments the kernel and the reference end with the same five results. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.Scale.resDx (Cert.KernelIdeal.Hand.argDy m c) (Cert.KernelIdeal.Hand.argW m c), fun c => Cert.Scale.resDyq (Cert.KernelIdeal.Hand.argDy m c),
    fun c => Cert.Scale.resSdy (Cert.KernelIdeal.Hand.argDy m c), fun c => Cert.Scale.tWq (Cert.KernelIdeal.Hand.argW m c),
    fun c => Cert.Scale.resSw (Cert.KernelIdeal.Hand.argW m c), Cert.KernelIdeal.Hand.run m g, ?_⟩
  refine (θ_run _ _ _).mono (fun r hr c => ?_) (Cert.ReferenceIdeal.Hand.run m' g')
  have e0 : Cert.ReferenceIdeal.Hand.argDy m' c = Cert.KernelIdeal.Hand.argDy m c := (h c).1
  have e1 : Cert.ReferenceIdeal.Hand.argW m' c = Cert.KernelIdeal.Hand.argW m c := (h c).2
  have hc := hr c
  rw [e0, e1] at hc
  exact hc

/-- The three programs end as they should, the idealization is the kernel's, and the kernel computes what the reference computes. -/
theorem claim : Cert.Claim := ⟨Cert.Kernel.Gen.facts, Cert.KernelIdeal.Gen.facts, Cert.ReferenceIdeal.Gen.facts, by
  exact ⟨fun m g _ => Cert.Same.frame m g, fun m g _ => Cert.KernelIdeal.Hand.frame m g, fun m g _ => Cert.ReferenceIdeal.Gen.frame m g, trivial, algebraic⟩⟩

end Cert.Proof

end
